-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_uncrowded [hPre_uncrowded : Cert.Pre_uncrowded.Facts] (m : (ℓ : Loc Cert.KernelIdeal.nD Cert.KernelIdeal.τ Cert.KernelIdeal.sig) → Buf (Elt Ideal) ℓ) : Prop :=
  ∀ c : Dev Cert.KernelIdeal.nD,
    (Cert.Pre_uncrowded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_uncrowded [hPre_uncrowded : Cert.Pre_uncrowded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_uncrowded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_uncrowded [hKernelIdeal : Cert.KernelIdeal.Facts] [hPre_uncrowded : Cert.Pre_uncrowded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_uncrowded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_uncrowded [hReferenceIdeal : Cert.ReferenceIdeal.Facts] [hPre_uncrowded : Cert.Pre_uncrowded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_uncrowded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_uncrowded [hKernelIdeal : Cert.KernelIdeal.Facts] [hReferenceIdeal : Cert.ReferenceIdeal.Facts] [hPre_uncrowded : Cert.Pre_uncrowded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_uncrowded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_uncrowded : Cert.Pre_uncrowded.Facts),
    quiescent_Kernel (hKernel := hKernel)
    ∧ quiescent_KernelIdeal (hKernelIdeal := hKernelIdeal)
    ∧ quiescent_KernelIdeal_pre_uncrowded (hKernelIdeal := hKernelIdeal) (hPre_uncrowded := hPre_uncrowded)
    ∧ quiescent_ReferenceIdeal (hReferenceIdeal := hReferenceIdeal)
    ∧ quiescent_ReferenceIdeal_pre_uncrowded (hReferenceIdeal := hReferenceIdeal) (hPre_uncrowded := hPre_uncrowded)
    ∧ preserves_Kernel_KernelIdeal
    ∧ algebraic_KernelIdeal_ReferenceIdeal_pre_uncrowded (hKernelIdeal := hKernelIdeal) (hReferenceIdeal := hReferenceIdeal) (hPre_uncrowded := hPre_uncrowded)
-- ==== Pre_uncrowded.lean ====
abbrev S2x16384x3 : Shape := ⟨3, ![2, 16384, 3]⟩
abbrev S2x4096x3 : Shape := ⟨3, ![2, 4096, 3]⟩
abbrev S2x4096x16384 : Shape := ⟨3, ![2, 4096, 16384]⟩
abbrev S_ : Shape := ⟨0, ![]⟩
abbrev S2x4096 : Shape := ⟨2, ![2, 4096]⟩
abbrev S2x4096x1 : Shape := ⟨3, ![2, 4096, 1]⟩
abbrev S2x16384 : Shape := ⟨2, ![2, 16384]⟩
abbrev S2x1x16384 : Shape := ⟨3, ![2, 1, 16384]⟩
abbrev S2x4096x32 : Shape := ⟨3, ![2, 4096, 32]⟩
abbrev S2x4096x32x1 : Shape := ⟨4, ![2, 4096, 32, 1]⟩
abbrev S2x4096x1x32 : Shape := ⟨4, ![2, 4096, 1, 32]⟩
abbrev S2x4096x32x32 : Shape := ⟨4, ![2, 4096, 32, 32]⟩

class Facts : Prop where
  bcast_S_S2x4096x16384 : S_.BroadcastsInDim S2x4096x16384 (![] : Fin 0 → Fin S2x4096x16384.rank)
  reducesTo_S2x4096x3_S2x4096_d2 : S2x4096x3.ReducesTo [2] S2x4096
  h_S_ : 0 < S_.numel
  bcast_S2x4096_S2x4096x1_0_1 : S2x4096.BroadcastsInDim S2x4096x1 (![0, 1] : Fin 2 → Fin S2x4096x1.rank)
  bcast_S2x4096x1_S2x4096x16384_0_1_2 : S2x4096x1.BroadcastsInDim S2x4096x16384 (![0, 1, 2] : Fin 3 → Fin S2x4096x16384.rank)
  reducesTo_S2x16384x3_S2x16384_d2 : S2x16384x3.ReducesTo [2] S2x16384
  bcast_S2x16384_S2x1x16384_0_2 : S2x16384.BroadcastsInDim S2x1x16384 (![0, 2] : Fin 2 → Fin S2x1x16384.rank)
  bcast_S2x1x16384_S2x4096x16384_0_1_2 : S2x1x16384.BroadcastsInDim S2x4096x16384 (![0, 1, 2] : Fin 3 → Fin S2x4096x16384.rank)
  sliceFits_S2x4096x16384_S2x4096x32 : S2x4096x16384.Slices (fun _ => 0) S2x4096x32
  bcast_S_S2x4096x32 : S_.BroadcastsInDim S2x4096x32 (![] : Fin 0 → Fin S2x4096x32.rank)
  bcast_S2x4096x32_S2x4096x32x1_0_1_2 : S2x4096x32.BroadcastsInDim S2x4096x32x1 (![0, 1, 2] : Fin 3 → Fin S2x4096x32x1.rank)
  bcast_S2x4096x32_S2x4096x1x32_0_1_3 : S2x4096x32.BroadcastsInDim S2x4096x1x32 (![0, 1, 3] : Fin 3 → Fin S2x4096x1x32.rank)
  bcast_S2x4096x32x1_S2x4096x32x32_0_1_2_3 : S2x4096x32x1.BroadcastsInDim S2x4096x32x32 (![0, 1, 2, 3] : Fin 4 → Fin S2x4096x32x32.rank)
  bcast_S2x4096x1x32_S2x4096x32x32_0_1_2_3 : S2x4096x1x32.BroadcastsInDim S2x4096x32x32 (![0, 1, 2, 3] : Fin 4 → Fin S2x4096x32x32.rank)
  natLt_1_32 : 1 < 32
  reducesTo_S2x4096x32x32_S2x4096x32_d3 : S2x4096x32x32.ReducesTo [3] S2x4096x32
  dot_S2x4096x3_S2x16384x3_S2x4096x16384_2_2_1_1_0_0_wf : DotDims.WF S2x4096x3 S2x16384x3 S2x4096x16384 [2] [2] [1] [1] [0] [0]

variable [Facts]

def dot_S2x4096x3_S2x16384x3_S2x4096x16384_2_2_1_1_0_0 : DotDims S2x4096x3 S2x16384x3 S2x4096x16384 where
  lhsContracting := [2]
  rhsContracting := [2]
  lhsNonContracting := [1]
  rhsNonContracting := [1]
  lhsBatch := [0]
  rhsBatch := [0]
  wf := dot_S2x4096x3_S2x16384x3_S2x4096x16384_2_2_1_1_0_0_wf
def fn_part1 {F : FTy → Type} [FloatOps F] (main_values : FVec F S2x4096x32 .f32) (main_v16 : IVec S2x4096x32x1 32) (main_v17 : IVec S2x4096x1x32 32) : IVec S2x4096x32 1 :=
  let main_v18 : IVec S2x4096x32x32 32 := broadcastInDim S2x4096x32x32 ![0, 1, 2, 3] bcast_S2x4096x32x1_S2x4096x32x32_0_1_2_3 main_v16
  let main_v19 : IVec S2x4096x32x32 32 := broadcastInDim S2x4096x32x32 ![0, 1, 2, 3] bcast_S2x4096x1x32_S2x4096x32x32_0_1_2_3 main_v17
  let main_v20 : IVec S2x4096x32x32 1 := cmpi .eq main_v18 main_v19
  let main_v21 : IVec S2x4096x32x32 32 := (extui 32 · natLt_1_32) main_v20
  let main_c_2 : IVec S_ 32 := constantI S_ 32 0#32
  let main_v22 : IVec S2x4096x32 32 := (fun x v => Host.reduce IntOp.addi x v reducesTo_S2x4096x32x32_S2x4096x32_d3 h_S_) main_v21 main_c_2
  let main_cst_3 : FVec F S_ .f32 := constant S_ .f32 0xFF800000#32
  let main_v23 : FVec F S2x4096x32 .f32 := broadcastInDim S2x4096x32 ![] bcast_S_S2x4096x32 main_cst_3
  let main_v24 : IVec S2x4096x32 1 := cmpf .ogt main_values main_v23
  let main_c_4 : IVec S_ 32 := constantI S_ 32 5#32
  let main_v25 : IVec S2x4096x32 32 := broadcastInDim S2x4096x32 ![] bcast_S_S2x4096x32 main_c_4
  let main_v26 : IVec S2x4096x32 1 := cmpi .sle main_v22 main_v25
  let main_v27 : IVec S2x4096x32 1 := andi main_v24 main_v26
  main_v27

def fn {F : FTy → Type} [FloatOps F] (main_arg0 : FVec F S2x16384x3 .f32) (main_arg1 : FVec F S2x4096x3 .f32) : IVec S2x4096x32 1 :=
  let main_v0 : FVec F S2x4096x16384 .f32 := (fun l r => Host.dotGeneral dot_S2x4096x3_S2x16384x3_S2x4096x16384_2_2_1_1_0_0 none l r) main_arg1 main_arg0
  let main_cst : FVec F S_ .f32 := constant S_ .f32 0xC0000000#32
  let main_v1 : FVec F S2x4096x16384 .f32 := broadcastInDim S2x4096x16384 ![] bcast_S_S2x4096x16384 main_cst
  let main_v2 : FVec F S2x4096x16384 .f32 := mulf main_v1 main_v0
  let main_v3 : FVec F S2x4096x3 .f32 := mulf main_arg1 main_arg1
  let main_cst_0 : FVec F S_ .f32 := constant S_ .f32 0x00000000#32
  let main_v4 : FVec F S2x4096 .f32 := (fun x v => Host.reduceAdd x v reducesTo_S2x4096x3_S2x4096_d2 h_S_) main_v3 main_cst_0
  let main_v5 : FVec F S2x4096x1 .f32 := broadcastInDim S2x4096x1 ![0, 1] bcast_S2x4096_S2x4096x1_0_1 main_v4
  let main_v6 : FVec F S2x4096x16384 .f32 := broadcastInDim S2x4096x16384 ![0, 1, 2] bcast_S2x4096x1_S2x4096x16384_0_1_2 main_v5
  let main_v7 : FVec F S2x4096x16384 .f32 := addf main_v2 main_v6
  let main_v8 : FVec F S2x16384x3 .f32 := mulf main_arg0 main_arg0
  let main_cst_1 : FVec F S_ .f32 := constant S_ .f32 0x00000000#32
  let main_v9 : FVec F S2x16384 .f32 := (fun x v => Host.reduceAdd x v reducesTo_S2x16384x3_S2x16384_d2 h_S_) main_v8 main_cst_1
  let main_v10 : FVec F S2x1x16384 .f32 := broadcastInDim S2x1x16384 ![0, 2] bcast_S2x16384_S2x1x16384_0_2 main_v9
  let main_v11 : FVec F S2x4096x16384 .f32 := broadcastInDim S2x4096x16384 ![0, 1, 2] bcast_S2x1x16384_S2x4096x16384_0_1_2 main_v10
  let main_v12 : FVec F S2x4096x16384 .f32 := addf main_v7 main_v11
  let main_v13 : FVec F S2x4096x16384 .f32 := Host.negf main_v12
  let main_values : FVec F S2x4096x32 .f32 := (fun x => (Host.topK S2x4096x32 2 (FloatOps.cmpfTotal .gt) x sliceFits_S2x4096x16384_S2x4096x32).1) main_v13
  let main_indices : IVec S2x4096x32 32 := (fun x => (Host.topK S2x4096x32 2 (FloatOps.cmpfTotal .gt) x sliceFits_S2x4096x16384_S2x4096x32).2) main_v13
  let main_c : IVec S_ 32 := constantI S_ 32 127#32
  let main_v14 : IVec S2x4096x32 32 := broadcastInDim S2x4096x32 ![] bcast_S_S2x4096x32 main_c
  let main_v15 : IVec S2x4096x32 32 := andi main_indices main_v14
  let main_v16 : IVec S2x4096x32x1 32 := broadcastInDim S2x4096x32x1 ![0, 1, 2] bcast_S2x4096x32_S2x4096x32x1_0_1_2 main_v15
  let main_v17 : IVec S2x4096x1x32 32 := broadcastInDim S2x4096x1x32 ![0, 1, 3] bcast_S2x4096x32_S2x4096x1x32_0_1_3 main_v15
  fn_part1 (F := F) main_values main_v16 main_v17
-- ==== Kernel.lean ====
abbrev S2x16384x3 : Shape := ⟨3, ![2, 16384, 3]⟩
abbrev S2x4096x3 : Shape := ⟨3, ![2, 4096, 3]⟩
abbrev S2x3x4096 : Shape := ⟨3, ![2, 3, 4096]⟩
abbrev S2x32x4096 : Shape := ⟨3, ![2, 32, 4096]⟩
abbrev S1x16384x3 : Shape := ⟨3, ![1, 16384, 3]⟩
abbrev S1x3x128 : Shape := ⟨3, ![1, 3, 128]⟩
abbrev S1x32x128 : Shape := ⟨3, ![1, 32, 128]⟩
abbrev S128x128x128 : Shape := ⟨3, ![128, 128, 128]⟩
abbrev S16384x3 : Shape := ⟨2, ![16384, 3]⟩
abbrev S3x128 : Shape := ⟨2, ![3, 128]⟩
abbrev S128 : Shape := ⟨1, ![128]⟩
abbrev S1x128 : Shape := ⟨2, ![1, 128]⟩
abbrev S16384 : Shape := ⟨1, ![16384]⟩
abbrev S16384x1 : Shape := ⟨2, ![16384, 1]⟩
abbrev S16384x128 : Shape := ⟨2, ![16384, 128]⟩
abbrev S128x128 : Shape := ⟨2, ![128, 128]⟩
abbrev S32x128 : Shape := ⟨2, ![32, 128]⟩
abbrev S1x128x128 : Shape := ⟨3, ![1, 128, 128]⟩
abbrev S2x4096x32 : Shape := ⟨3, ![2, 4096, 32]⟩

abbrev nBuf : Space → Nat
  | .hbm => 5
  | .vmem => 7
  | .smem => 0
  | _ => 0

abbrev bufTy : (tb : Table) → Fin (tcTables nBuf tb) → BufTy
  | .hbm, ⟨0, _⟩ => ⟨S2x16384x3, .f32⟩
  | .hbm, ⟨1, _⟩ => ⟨S2x4096x3, .f32⟩
  | .hbm, ⟨2, _⟩ => ⟨S2x3x4096, .f32⟩
  | .hbm, ⟨3, _⟩ => ⟨S2x32x4096, .i32⟩
  | .hbm, ⟨4, _⟩ => ⟨S2x4096x32, .i32⟩
  | .local _ .vmem, ⟨0, _⟩ => ⟨S1x16384x3, .f32⟩
  | .local _ .vmem, ⟨1, _⟩ => ⟨S1x16384x3, .f32⟩
  | .local _ .vmem, ⟨2, _⟩ => ⟨S1x3x128, .f32⟩
  | .local _ .vmem, ⟨3, _⟩ => ⟨S1x3x128, .f32⟩
  | .local _ .vmem, ⟨4, _⟩ => ⟨S1x32x128, .i32⟩
  | .local _ .vmem, ⟨5, _⟩ => ⟨S1x32x128, .i32⟩
  | .local _ .vmem, ⟨6, _⟩ => ⟨S128x128x128, .f32⟩
  | _, _ => ⟨S2x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32 : BitVec 32 := 0#32
  let c128_i32 : BitVec 32 := 128#32
  let v25 : BitVec 32 := Scalar.addi c0_i32 c128_i32
  let c1_i32 : BitVec 32 := 1#32
  ⟨c0_i32, v25, c1_i32⟩
def k0_off1 (k0_t1 : Fin k0_t1_loop.trips) : Fin 3 → Nat :=
  let c0_i32 : BitVec 32 := 0#32
  let c1_i32 : BitVec 32 := 1#32
  let arg6 : BitVec 32 := Scf.iv c0_i32 c1_i32 k0_t1
  let v884 : Index := Scalar.indexCast arg6
  let c0_169 : Index := 0#32
  let c0_170 : Index := 0#32
  ![v884.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x16384x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S2x16384x3 : Shape := ⟨3, ![2, 16384, 3]⟩
abbrev S2x4096x3 : Shape := ⟨3, ![2, 4096, 3]⟩
abbrev S2x4096x16384 : Shape := ⟨3, ![2, 4096, 16384]⟩
abbrev S_ : Shape := ⟨0, ![]⟩
abbrev S2x4096 : Shape := ⟨2, ![2, 4096]⟩
abbrev S2x4096x1 : Shape := ⟨3, ![2, 4096, 1]⟩
abbrev S2x16384 : Shape := ⟨2, ![2, 16384]⟩
abbrev S2x1x16384 : Shape := ⟨3, ![2, 1, 16384]⟩
abbrev S2x4096x32 : Shape := ⟨3, ![2, 4096, 32]⟩

abbrev nBuf : Space → Nat
  | .hbm => 21
  | .vmem => 0
  | .smem => 0
  | _ => 0

abbrev bufTy : (tb : Table) → Fin (tcTables nBuf tb) → BufTy
  | .hbm, ⟨0, _⟩ => ⟨S2x16384x3, .f32⟩
  | .hbm, ⟨1, _⟩ => ⟨S2x4096x3, .f32⟩
  | .hbm, ⟨2, _⟩ => ⟨S2x4096x16384, .f32⟩
  | .hbm, ⟨3, _⟩ => ⟨S_, .f32⟩
  | .hbm, ⟨4, _⟩ => ⟨S2x4096x16384, .f32⟩
  | .hbm, ⟨5, _⟩ => ⟨S2x4096x16384, .f32⟩
  | .hbm, ⟨6, _⟩ => ⟨S2x4096x3, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S2x4096x16384, .f32⟩
  | .hbm, ⟨11, _⟩ => ⟨S2x4096x16384, .f32⟩
  | .hbm, ⟨12, _⟩ => ⟨S2x16384x3, .f32⟩
  | .hbm, ⟨13, _⟩ => ⟨S_, .f32⟩
  | .hbm, ⟨14, _⟩ => ⟨S2x16384, .f32⟩
  | .hbm, ⟨15, _⟩ => ⟨S2x1x16384, .f32⟩
  | .hbm, ⟨16, _⟩ => ⟨S2x4096x16384, .f32⟩
  | .hbm, ⟨17, _⟩ => ⟨S2x4096x16384, .f32⟩
  | .hbm, ⟨18, _⟩ => ⟨S2x4096x16384, .f32⟩
  | .hbm, ⟨19, _⟩ => ⟨S2x4096x32, .f32⟩
  | .hbm, ⟨20, _⟩ => ⟨S2x4096x32, .i32⟩
  | _, _ => ⟨S2x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_values : Ref sig .tc := ⟨.hbm, 19, rfl⟩
abbrev main_indices : Ref sig .tc := ⟨.hbm, 20, rfl⟩

abbrev nD : Nat := 1
abbrev τ : Topo := Topo.v7x

variable {F : FTy → Type} [FloatOps F]
-- ==== Proof.Frames.lean ====
/- The frames of the three programs: each terminates, leaves its argument arrays as they were, and ends with every
   semaphore counter at zero. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel, at the bit-exact instance, runs and leaves its arguments and the counters as it must. -/
theorem frame_kernel : Cert.quiescent_Kernel := fun m ρ _ => Cert.Kernel.Gen.frame (F := Bits) m ρ

/-- The same of the kernel's text read over the extended reals. -/
theorem frame_ideal : Cert.quiescent_KernelIdeal := fun m ρ _ => Cert.KernelIdeal.Gen.frame (F := Ideal) m ρ

/-- The reference over the extended reals runs and leaves its arguments as they were; it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof

end
-- ==== Proof.Rounds.lean ====
/- The 32 rounds of the kernel body, as one function iterated: the table of five values and five point numbers per
   class and query, one round's answer (the least number among the classes at the least value), the table the round
   leaves, and the answers gathered row by row. The pieces the body's run found are the last iterate. -/
module

public import proofs.«01_k».proof.Proof.Gen.KernelIdeal.Frame

@[expose] public section

set_option maxRecDepth 16384

noncomputable section

namespace Cert.KernelIdeal.Val

open Cert.KernelIdeal Cert.KernelIdeal.Gen Idealize.ShloMosaic Idealize.ShloMosaic.TcCoe Idealize.SL.Sem

variable {F : FTy → Type} [FloatOps F]

/-- The table the loop carries: per class (axis 0) and query (axis 1) five values, least first, and their point numbers. -/
structure Tab (F : FTy → Type) [FloatOps F] where
  v0 : FVec F S128x128 .f32
  v1 : FVec F S128x128 .f32
  v2 : FVec F S128x128 .f32
  v3 : FVec F S128x128 .f32
  v4 : FVec F S128x128 .f32
  n0 : IVec S128x128 32
  n1 : IVec S128x128 32
  n2 : IVec S128x128 32
  n3 : IVec S128x128 32
  n4 : IVec S128x128 32

/-- Where the first values equal their query's least. -/
def sel (v0 : FVec F S128x128 .f32) : IVec S128x128 1 :=
  cmpf .oeq v0 (broadcastTo S128x128 (shapeCast S1x128 (multiReduction .minimumf [0] S128 v0 0x7F800000#32 reduces_S128x128_S128 (.inl rfl) rfl) shapeCasts_S128_S1x128) broadcasts_S1x128_S128x128)

/-- The least point number among those. -/
def least (v0 : FVec F S128x128 .f32) (n0 : IVec S128x128 32) : IVec S1x128 32 :=
  shapeCast S1x128 (multiReductionI .minsi [0] S128 (select (sel v0) n0 (broadcast S128x128 1073741824#32)) 2147483647#32 reduces_S128x128_S128 rfl) shapeCasts_S128_S1x128

/-- The class that holds it. -/
def win (v0 : FVec F S128x128 .f32) (n0 : IVec S128x128 32) : IVec S128x128 1 :=
  andi (sel v0) (cmpi .eq n0 (broadcastTo S128x128 (least v0 n0) broadcasts_S1x128_S128x128))

/-- One round: the class of the answer drops its first entry. -/
def Tab.pop (t : Tab F) : Tab F where
  v0 := select (win t.v0 t.n0) t.v1 t.v0
  v1 := select (win t.v0 t.n0) t.v2 t.v1
  v2 := select (win t.v0 t.n0) t.v3 t.v2
  v3 := select (win t.v0 t.n0) t.v4 t.v3
  v4 := select (win t.v0 t.n0) (broadcast S128x128 (Scalar.ofBits .f32 0x7F800000#32)) t.v4
  n0 := select (win t.v0 t.n0) t.n1 t.n0
  n1 := select (win t.v0 t.n0) t.n2 t.n1
  n2 := select (win t.v0 t.n0) t.n3 t.n2
  n3 := select (win t.v0 t.n0) t.n4 t.n3
  n4 := select (win t.v0 t.n0) (broadcast S128x128 1073741824#32) t.n4

/-- The table after `r` rounds. -/
def Tab.after (t : Tab F) : ℕ → Tab F
  | 0 => t
  | r + 1 => (Tab.after t r).pop

/-- One round's answer written into its row. -/
def put (r : ℕ) (a : IVec S1x128 32) (o : IVec S32x128 32) : IVec S32x128 32 :=
  select (cmpi .eq (iota .tc S32x128 32 [0] iota_S32x128_d0_w32) (broadcast S32x128 (BitVec.ofNat 32 r)))
    (broadcastTo S32x128 (shapeCast S1x128 a shapeCasts_S1x128_S1x128) broadcasts_S1x128_S32x128) o

/-- The answers after `r` rounds. -/
def Tab.answers (t : Tab F) : ℕ → IVec S32x128 32
  | 0 => broadcast S32x128 0#32
  | r + 1 => put r (least (t.after r).v0 (t.after r).n0) (Tab.answers t r)

/-- The loop's ten carried arrays as a table. -/
def ofCarry (x : FVec F S128x128 .f32 × FVec F S128x128 .f32 × FVec F S128x128 .f32 × FVec F S128x128 .f32 × FVec F S128x128 .f32 × IVec S128x128 32 × IVec S128x128 32 × IVec S128x128 32 × IVec S128x128 32 × IVec S128x128 32) : Tab F :=
  ⟨x.1, x.2.1, x.2.2.1, x.2.2.2.1, x.2.2.2.2.1, x.2.2.2.2.2.1, x.2.2.2.2.2.2.1, x.2.2.2.2.2.2.2.1, x.2.2.2.2.2.2.2.2.1, x.2.2.2.2.2.2.2.2.2⟩

/-- The loop's initial carry: every value `+∞`, every number the pad. -/
def carry0 : FVec F S128x128 .f32 × FVec F S128x128 .f32 × FVec F S128x128 .f32 × FVec F S128x128 .f32 × FVec F S128x128 .f32 × IVec S128x128 32 × IVec S128x128 32 × IVec S128x128 32 × IVec S128x128 32 × IVec S128x128 32 :=
  (k0_pay3, k0_pay3, k0_pay3, k0_pay3, k0_pay3, k0_pay4, k0_pay4, k0_pay4, k0_pay4, k0_pay4)

/-- What the scratch holds in the loop. -/
def scratch (c : Dev nD) (arg2 : Memref sig .tc .vmem S1x16384x3 .f32) (harg2 : arg2.IsWhole) (arg3 : Memref sig .tc .vmem S1x3x128 .f32) (harg3 : arg3.IsWhole) (arg5 : Memref sig .tc .vmem S128x128x128 .f32)
    (x0 : Vec F S1x16384x3 .f32) (x1 : Vec F S1x3x128 .f32) : BufTy.Contents (Elt F) arg5.view.ty :=
  arg5.view.writes (Elt F) arg5.view.junk (kernelRun0_A.sl.HS0_1 c arg2 harg2 arg3 harg3 x0 x1)

/-- The table the loop leaves. -/
def looped (c : Dev nD) (i : grid0.Coords) (arg2 : Memref sig .tc .vmem S1x16384x3 .f32) (harg2 : arg2.IsWhole) (arg3 : Memref sig .tc .vmem S1x3x128 .f32) (harg3 : arg3.IsWhole) (arg4 : Memref sig .tc .vmem S1x32x128 .i32) (harg4 : arg4.IsWhole) (arg5 : Memref sig .tc .vmem S128x128x128 .f32) (harg5 : arg5.IsWhole)
    (x0 : Vec F S1x16384x3 .f32) (x1 : Vec F S1x3x128 .f32) : Tab F :=
  ofCarry (st_k0_t1 Variants.none c none i arg2 harg2 arg3 harg3 arg4 harg4 arg5 harg5 (scratch c arg2 harg2 arg3 harg3 arg5 x0 x1) carry0 (Scf.trips k0_t1_loop.lb k0_t1_loop.ub k0_t1_loop.st))

/-- The body's one store holds the answers of the 32 rounds from the table the loop leaves. -/
theorem pieces_eq (c : Dev nD) (i : grid0.Coords) (arg2 : Memref sig .tc .vmem S1x16384x3 .f32) (harg2 : arg2.IsWhole) (arg3 : Memref sig .tc .vmem S1x3x128 .f32) (harg3 : arg3.IsWhole) (arg4 : Memref sig .tc .vmem S1x32x128 .i32) (harg4 : arg4.IsWhole) (arg5 : Memref sig .tc .vmem S128x128x128 .f32) (harg5 : arg5.IsWhole)
    (x0 : Vec F S1x16384x3 .f32) (x1 : Vec F S1x3x128 .f32) :
    (kernelRun0_A c i arg2 harg2 arg3 harg3 arg4 harg4 arg5 harg5 x0 x1).1
      = [⟨Rect.unit (s := S1x32x128) ![0, 0, 0] S1x32x128.size inb_S1x32x128_S1x32x128_0_0_0,
          shapeCast S1x32x128 ((looped c i arg2 harg2 arg3 harg3 arg4 harg4 arg5 harg5 x0 x1).answers 32) shapeCasts_S32x128_S1x32x128⟩] := by
  sl_kernel_rfl

end Cert.KernelIdeal.Val

end
-- ==== Proof.Trips.lean ====
/- The loop of the kernel body. One trip merges one row of distances into the table: a chain of compare-and-exchange
   steps over the five entries. Its trips in turn, from the table of pads, give the table the rounds start from. -/
module

public import proofs.«01_k».proof.Proof.Rounds
public import Idealize.ShloMosaic.Lib.VecWindow

@[expose] public section

set_option maxRecDepth 16384

noncomputable section

namespace Cert.KernelIdeal.Val

open Cert.KernelIdeal Cert.KernelIdeal.Gen Idealize.ShloMosaic Idealize.ShloMosaic.TcCoe Idealize.SL.Sem

variable {F : FTy → Type} [FloatOps F]

/-- Values and point numbers, kept together. -/
abbrev Pairs (F : FTy → Type) [FloatOps F] := FVec F S128x128 .f32 × IVec S128x128 32

/-- The lesser of the kept entries `a` and the moving entries `b`; `a` on a tie. -/
def loP (a b : Pairs F) : Pairs F := (select (cmpf .olt b.1 a.1) b.1 a.1, select (cmpf .olt b.1 a.1) b.2 a.2)

/-- The greater of the two; `b` on a tie. -/
def hiP (a b : Pairs F) : Pairs F := (select (cmpf .olt b.1 a.1) a.1 b.1, select (cmpf .olt b.1 a.1) a.2 b.2)

/-- The entries that move on past place 4, 3, 2 and 1 when `x` is merged into the table. -/
def Tab.moving4 (t : Tab F) (x : Pairs F) : Pairs F := loP (t.v4, t.n4) x
@[inherit_doc Tab.moving4] def Tab.moving3 (t : Tab F) (x : Pairs F) : Pairs F := loP (t.v3, t.n3) (t.moving4 x)
@[inherit_doc Tab.moving4] def Tab.moving2 (t : Tab F) (x : Pairs F) : Pairs F := loP (t.v2, t.n2) (t.moving3 x)
@[inherit_doc Tab.moving4] def Tab.moving1 (t : Tab F) (x : Pairs F) : Pairs F := loP (t.v1, t.n1) (t.moving2 x)

/-- The table with the entries `x` merged into it. -/
def Tab.merge (t : Tab F) (x : Pairs F) : Tab F where
  v0 := (loP (t.v0, t.n0) (t.moving1 x)).1
  v1 := (hiP (t.v0, t.n0) (t.moving1 x)).1
  v2 := (hiP (t.v1, t.n1) (t.moving2 x)).1
  v3 := (hiP (t.v2, t.n2) (t.moving3 x)).1
  v4 := (hiP (t.v3, t.n3) (t.moving4 x)).1
  n0 := (loP (t.v0, t.n0) (t.moving1 x)).2
  n1 := (hiP (t.v0, t.n0) (t.moving1 x)).2
  n2 := (hiP (t.v1, t.n1) (t.moving2 x)).2
  n3 := (hiP (t.v2, t.n2) (t.moving3 x)).2
  n4 := (hiP (t.v3, t.n3) (t.moving4 x)).2

/-- Row `k` of the scratch with its point numbers. -/
def row (arg5 : Memref sig .tc .vmem S128x128x128 .f32) (X : BufTy.Contents (Elt F) arg5.view.ty) (k : Fin k0_t1_loop.trips) : Pairs F :=
  (shapeCast S128x128 (arg5.view.readAt (Elt F) (Rect.unit (s := S128x128x128) (k0_off1 k) S1x128x128.size (k0_off1_inb k)).toLoadRect X) shapeCasts_S1x128x128_S128x128,
    addi (iota .tc S128x128 32 [0] iota_S128x128_d0_w32) (broadcast S128x128 (Scalar.muli (Scf.iv 0#32 1#32 k) 128#32)))

/-- One trip merges one row. -/
theorem trip_eq (c : Dev nD) (i : grid0.Coords) (arg2 : Memref sig .tc .vmem S1x16384x3 .f32) (harg2 : arg2.IsWhole) (arg3 : Memref sig .tc .vmem S1x3x128 .f32) (harg3 : arg3.IsWhole) (arg4 : Memref sig .tc .vmem S1x32x128 .i32) (harg4 : arg4.IsWhole) (arg5 : Memref sig .tc .vmem S128x128x128 .f32) (harg5 : arg5.IsWhole)
    (X : BufTy.Contents (Elt F) arg5.view.ty) (k : Fin k0_t1_loop.trips) (acc : FVec F S128x128 .f32 × FVec F S128x128 .f32 × FVec F S128x128 .f32 × FVec F S128x128 .f32 × FVec F S128x128 .f32 × IVec S128x128 32 × IVec S128x128 32 × IVec S128x128 32 × IVec S128x128 32 × IVec S128x128 32) :
    ofCarry (tripR_k0_t1 Variants.none c none i arg2 harg2 arg3 harg3 arg4 harg4 arg5 harg5 X k acc) = (ofCarry acc).merge (row arg5 X k) := by
  sl_kernel_rfl

/-- The table before trip `k`. -/
def merged (c : Dev nD) (i : grid0.Coords) (arg2 : Memref sig .tc .vmem S1x16384x3 .f32) (harg2 : arg2.IsWhole) (arg3 : Memref sig .tc .vmem S1x3x128 .f32) (harg3 : arg3.IsWhole) (arg4 : Memref sig .tc .vmem S1x32x128 .i32) (harg4 : arg4.IsWhole) (arg5 : Memref sig .tc .vmem S128x128x128 .f32) (harg5 : arg5.IsWhole)
    (X : BufTy.Contents (Elt F) arg5.view.ty) (k : ℕ) : Tab F :=
  ofCarry (st_k0_t1 Variants.none c none i arg2 harg2 arg3 harg3 arg4 harg4 arg5 harg5 X carry0 k)

/-- Each trip merges its row into the table before it. -/
theorem merged_succ (c : Dev nD) (i : grid0.Coords) (arg2 : Memref sig .tc .vmem S1x16384x3 .f32) (harg2 : arg2.IsWhole) (arg3 : Memref sig .tc .vmem S1x3x128 .f32) (harg3 : arg3.IsWhole) (arg4 : Memref sig .tc .vmem S1x32x128 .i32) (harg4 : arg4.IsWhole) (arg5 : Memref sig .tc .vmem S128x128x128 .f32) (harg5 : arg5.IsWhole)
    (X : BufTy.Contents (Elt F) arg5.view.ty) (k : Fin k0_t1_loop.trips) :
    merged c i arg2 harg2 arg3 harg3 arg4 harg4 arg5 harg5 X (k.val + 1)
      = (merged c i arg2 harg2 arg3 harg3 arg4 harg4 arg5 harg5 X k.val).merge (row arg5 X k) := by
  unfold merged
  rw [st_k0_t1_succ]
  exact trip_eq c i arg2 harg2 arg3 harg3 arg4 harg4 arg5 harg5 X k _

/-- The loop has 128 trips. -/
theorem trips_eq : Scf.trips k0_t1_loop.lb k0_t1_loop.ub k0_t1_loop.st = 128 := by decide +kernel

/-- The table the rounds start from is the one after the last trip. -/
theorem looped_eq (c : Dev nD) (i : grid0.Coords) (arg2 : Memref sig .tc .vmem S1x16384x3 .f32) (harg2 : arg2.IsWhole) (arg3 : Memref sig .tc .vmem S1x3x128 .f32) (harg3 : arg3.IsWhole) (arg4 : Memref sig .tc .vmem S1x32x128 .i32) (harg4 : arg4.IsWhole) (arg5 : Memref sig .tc .vmem S128x128x128 .f32) (harg5 : arg5.IsWhole)
    (x0 : Vec F S1x16384x3 .f32) (x1 : Vec F S1x3x128 .f32) :
    looped c i arg2 harg2 arg3 harg3 arg4 harg4 arg5 harg5 x0 x1
      = merged c i arg2 harg2 arg3 harg3 arg4 harg4 arg5 harg5 (scratch c arg2 harg2 arg3 harg3 arg5 x0 x1) 128 := by
  unfold looped merged
  rw [trips_eq]

/-- What the scratch reads: the block of distances. -/
theorem scratch_read (c : Dev nD) (arg2 : Memref sig .tc .vmem S1x16384x3 .f32) (harg2 : arg2.IsWhole) (arg3 : Memref sig .tc .vmem S1x3x128 .f32) (harg3 : arg3.IsWhole) (arg5 : Memref sig .tc .vmem S128x128x128 .f32)
    (x0 : Vec F S1x16384x3 .f32) (x1 : Vec F S1x3x128 .f32) :
    arg5.view.read (Elt F) (scratch c arg2 harg2 arg3 harg3 arg5 x0 x1) = k0_pay2 x0 x1 := by
  unfold scratch kernelRun0_A.sl.HS0_1
  refine (View.read_writes_full _ _ _ _ _).trans ?_
  refine congrArg₂ _ ?_ ?_
  · exact (View.readAt_full arg2.view _ _).trans (harg2.read_unread _)
  · exact (View.readAt_full arg3.view _ _).trans (harg3.read_unread _)

/-- So row `k` of the scratch at (class, query) is the distance block at (row, class, query). -/
theorem row_read (c : Dev nD) (arg2 : Memref sig .tc .vmem S1x16384x3 .f32) (harg2 : arg2.IsWhole) (arg3 : Memref sig .tc .vmem S1x3x128 .f32) (harg3 : arg3.IsWhole) (arg5 : Memref sig .tc .vmem S128x128x128 .f32)
    (x0 : Vec F S1x16384x3 .f32) (x1 : Vec F S1x3x128 .f32) (k : Fin k0_t1_loop.trips) :
    arg5.view.readAt (Elt F) (Rect.unit (s := S128x128x128) (k0_off1 k) S1x128x128.size (k0_off1_inb k)).toLoadRect (scratch c arg2 harg2 arg3 harg3 arg5 x0 x1)
      = VecWindow.window (k0_pay2 x0 x1) ![k.val, 0, 0] S1x128x128.size (k0_off1_eq k ▸ k0_off1_inb k) := by
  rw [View.readAt_unit arg5.view _ (k0_off1_inb k) (k0_off1_eq k) (k0_off1_eq k ▸ k0_off1_inb k), scratch_read]

end Cert.KernelIdeal.Val

end
-- ==== Proof.Merge.lean ====
/- One class of one query, over the extended reals: five entries, least first, merged with one point after another. What
   the entries are after any number of points, said by counts. -/
module

public import Idealize.ShloMosaic.Lib.Pointwise
public import Mathlib.Data.Prod.Lex

@[expose] public section

noncomputable section

namespace Knn

/-- A distance with the number of its point. -/
abbrev Entry := EReal × BitVec 32

/-- Distances with point numbers, ordered by the distance and then by the number. -/
abbrev Key := EReal ×ₗ ℕ

/-- The key of an entry. -/
def key (a : Entry) : Key := toLex (a.1, a.2.toNat)

/-- The entry that stands for no point. -/
def pad : Entry := (⊤, 1073741824#32)

/-- An entry precedes another: a smaller distance, or an equal one and a smaller point number. -/
theorem key_lt {a b : Entry} : key a < key b ↔ a.1 < b.1 ∨ a.1 = b.1 ∧ a.2.toNat < b.2.toNat := Prod.Lex.lt_iff ..

/-- The same with equality allowed. -/
theorem key_le {a b : Entry} : key a ≤ key b ↔ a.1 < b.1 ∨ a.1 = b.1 ∧ a.2.toNat ≤ b.2.toNat := Prod.Lex.le_iff ..

/-- An entry is its key. -/
theorem key_inj {a b : Entry} (h : key a = key b) : a = b := by
  have h' : (a.1, a.2.toNat) = (b.1, b.2.toNat) := toLex.injective h
  exact Prod.ext (Prod.mk.inj h').1 (BitVec.eq_of_toNat_eq (Prod.mk.inj h').2)

/-- The lesser of two entries by distance, the first on a tie. -/
def lo (a b : Entry) : Entry := if b.1 < a.1 then b else a

/-- The greater of two entries by distance, the second on a tie. -/
def hi (a b : Entry) : Entry := if b.1 < a.1 then a else b

/-- The place `j` of the entries after `c` is merged. -/
def ins (a : ℕ → Entry) (c : Entry) (j : ℕ) : Entry :=
  if ¬ c.1 < (a j).1 then a j else if j = 0 ∨ ¬ c.1 < (a (j - 1)).1 then c else a (j - 1)

/-- One compare-and-exchange keeps the moving entry the lesser of the merged one and the place's. -/
theorem lo_step {x y c : Entry} (h : x.1 ≤ y.1) : lo x (if c.1 < y.1 then c else y) = if c.1 < x.1 then c else x := by
  unfold lo
  by_cases hx : c.1 < x.1
  · rw [if_pos (hx.trans_le h), if_pos hx]
  · by_cases hy : c.1 < y.1
    · simp only [if_pos hy, if_neg hx]
    · simp only [if_neg hy, if_neg hx, if_neg (not_lt.2 h)]

/-- The entry it leaves at the place after. -/
theorem hi_step {x y c : Entry} (h : x.1 ≤ y.1) :
    hi x (if c.1 < y.1 then c else y) = if ¬ c.1 < y.1 then y else if ¬ c.1 < x.1 then c else x := by
  unfold hi
  by_cases hy : c.1 < y.1
  · by_cases hx : c.1 < x.1
    · rw [if_pos hy, if_pos hx, if_neg (not_not.2 hy), if_neg (not_not.2 hx)]
    · rw [if_pos hy, if_neg hx, if_neg (not_not.2 hy), if_pos hx]
  · rw [if_neg hy, if_neg (not_lt.2 h), if_pos hy]

/-- Point `n` of distances `D` as an entry: a pad if its distance is `+∞`. -/
def pt (D : ℕ → EReal) (n : ℕ) : Entry := if D n < ⊤ then (D n, BitVec.ofNat 32 n) else pad

/-- How many of the first `S` points of class `l` are below `x`. -/
def below (D : ℕ → EReal) (l S : ℕ) (x : Key) : ℕ := ((Finset.range S).filter fun s => key (pt D (128 * s + l)) < x).card

/-- How many of a class's first `S + 1` points precede `x`: those of the first `S`, and the last if it does. -/
theorem below_succ (D : ℕ → EReal) (l S : ℕ) (x : Key) :
    below D l (S + 1) x = below D l S x + if key (pt D (128 * S + l)) < x then 1 else 0 := by
  unfold below
  rw [Finset.range_add_one, Finset.filter_insert]
  split_ifs with h
  · rw [Finset.card_insert_of_notMem (by simp)]
  · rfl

/-- The five entries after the first `S` points of class `l`: place `j` is below `x` when more than `j` points are; and each
    place is a pad or a point met. -/
structure Sorted (D : ℕ → EReal) (l S : ℕ) (a : ℕ → Entry) : Prop where
  lt_iff : ∀ j < 5, ∀ x ≤ key pad, key (a j) < x ↔ j < below D l S x
  mem : ∀ j < 5, a j = pad ∨ ∃ s < S, D (128 * s + l) < ⊤ ∧ a j = (D (128 * s + l), BitVec.ofNat 32 (128 * s + l))

/-- Every point is at most a pad. -/
theorem toNat_num {s l : ℕ} (hs : s < 128) (hl : l < 128) : (BitVec.ofNat 32 (128 * s + l)).toNat = 128 * s + l := by
  rw [BitVec.toNat_ofNat]; exact Nat.mod_eq_of_lt (by omega)

/-- No kept entry comes after the empty entry. -/
theorem Sorted.le_pad {D : ℕ → EReal} {l S : ℕ} {a : ℕ → Entry} (h : Sorted D l S a) (hS : S ≤ 128) (hl : l < 128) {j : ℕ} (hj : j < 5) :
    key (a j) ≤ key pad := by
  rcases h.mem j hj with e | ⟨s, hs, hD, e⟩
  · rw [e]
  · rw [e]; exact key_le.2 (Or.inl hD)

/-- The places ascend. -/
theorem Sorted.mono {D : ℕ → EReal} {l S : ℕ} {a : ℕ → Entry} (h : Sorted D l S a) (hS : S ≤ 128) (hl : l < 128) {i j : ℕ} (hij : i ≤ j) (hj : j < 5) :
    key (a i) ≤ key (a j) := by
  by_contra hc
  have hc := not_le.1 hc
  have hp := h.le_pad hS hl (hij.trans_lt hj)
  have h1 := (h.lt_iff j hj _ hp).1 hc
  exact lt_irrefl _ ((h.lt_iff i (hij.trans_lt hj) _ hp).2 (hij.trans_lt h1))

/-- Entries in order have their distances in order. -/
theorem fst_le_of_key_le {a b : Entry} (h : key a ≤ key b) : a.1 ≤ b.1 := by
  rcases key_le.1 h with h | h
  · exact h.le
  · exact h.1.le

/-- At the start every place is a pad. -/
theorem Sorted.zero (D : ℕ → EReal) (l : ℕ) {a : ℕ → Entry} (ha : ∀ j < 5, a j = pad) : Sorted D l 0 a where
  lt_iff j hj x hx := by
    rw [ha j hj]
    simp only [below, Finset.range_zero, Finset.filter_empty, Finset.card_empty, Nat.not_lt_zero, iff_false, not_lt]
    exact hx
  mem j hj := Or.inl (ha j hj)

/-- Merging the next point of the class keeps the places in order: the comparison by distance alone is the one by key, since
    the entries already there have lesser numbers. -/
theorem Sorted.step {D : ℕ → EReal} {l S : ℕ} {a b : ℕ → Entry} (h : Sorted D l S a) (hS : S < 128) (hl : l < 128)
    (hb : ∀ j < 5, b j = ins a (D (128 * S + l), BitVec.ofNat 32 (128 * S + l)) j) : Sorted D l (S + 1) b := by
  set n := 128 * S + l with hn
  have hmono : ∀ {i j : ℕ}, i ≤ j → j < 5 → key (a i) ≤ key (a j) := fun hij hj => h.mono hS.le hl hij hj
  -- the comparison of the kernel against the one of keys
  have hcmp : ∀ j < 5, (D n < (a j).1 ↔ key (pt D n) < key (a j)) := by
    intro j hj
    unfold pt
    by_cases hD : D n < ⊤
    · rw [if_pos hD, key_lt]
      refine ⟨Or.inl, fun hh => hh.elim id fun ⟨e, hlt⟩ => ?_⟩
      exfalso
      rcases h.mem j hj with e' | ⟨s, hs, hDs, e'⟩
      · rw [e'] at e; exact hD.ne e
      · rw [e'] at hlt
        simp only [hn] at hlt
        rw [toNat_num hS hl, toNat_num (hs.trans hS) hl] at hlt
        omega
    · rw [if_neg hD]
      have hp := h.le_pad hS.le hl hj
      refine ⟨fun hh => absurd (hh.trans_le le_top) hD, fun hh => absurd hh (not_lt.2 hp)⟩
  constructor
  · intro j hj x hx
    rw [hb j hj, below_succ, ← hn]
    have hA := h.lt_iff j hj x hx
    unfold ins
    by_cases h1 : D n < (a j).1
    · have k1 := (hcmp j hj).1 h1
      have hD : D n < ⊤ := h1.trans_le le_top
      have hpt : pt D n = (D n, BitVec.ofNat 32 n) := if_pos hD
      rw [if_neg (not_not.2 h1)]
      by_cases h2 : j = 0 ∨ ¬ D n < (a (j - 1)).1
      · rw [if_pos h2, ← hpt]
        by_cases hx' : key (pt D n) < x
        · rw [if_pos hx']
          refine iff_of_true hx' ?_
          rcases h2 with h2 | h2
          · omega
          · rcases Nat.eq_zero_or_pos j with h0 | h0
            · omega
            · have hk : key (a (j - 1)) ≤ key (pt D n) := not_lt.1 fun hh => h2 ((hcmp (j - 1) (by omega)).2 hh)
              have := (h.lt_iff (j - 1) (by omega) x hx).1 (hk.trans_lt hx')
              omega
        · rw [if_neg hx']
          refine iff_of_false hx' fun hh => hx' (k1.trans (hA.2 (by omega)))
      · rw [if_neg h2]
        have h2 := not_or.1 h2
        have h3 := not_not.1 h2.2
        have k3 := (hcmp (j - 1) (by omega)).1 h3
        have hB := h.lt_iff (j - 1) (by omega) x hx
        by_cases hx' : key (pt D n) < x
        · rw [if_pos hx', hB]; omega
        · rw [if_neg hx']
          refine iff_of_false (fun hh => hx' (k3.trans hh)) fun hh => hx' (k1.trans (hA.2 (by omega)))
    · have k1 : key (a j) ≤ key (pt D n) := not_lt.1 fun hh => h1 ((hcmp j hj).2 hh)
      rw [if_pos h1]
      by_cases hx' : key (pt D n) < x
      · rw [if_pos hx']
        have := hA.1 (k1.trans_lt hx')
        exact iff_of_true (k1.trans_lt hx') (by omega)
      · rw [if_neg hx', hA]; omega
  · intro j hj
    rw [hb j hj]
    have hold : ∀ i < 5, a i = pad ∨ ∃ s < S + 1, D (128 * s + l) < ⊤ ∧ a i = (D (128 * s + l), BitVec.ofNat 32 (128 * s + l)) := fun i hi =>
      (h.mem i hi).imp id fun ⟨s, hs, h'⟩ => ⟨s, hs.trans (Nat.lt_succ_self S), h'⟩
    unfold ins
    split_ifs with h1 h2
    · exact Or.inr ⟨S, Nat.lt_succ_self S, lt_of_lt_of_le h1 le_top, rfl⟩
    · exact hold _ (by omega)
    · exact hold j hj

/-- A point below `+∞` with fewer than five of its class before it stands at the place of that number. -/
theorem Sorted.at_rank {D : ℕ → EReal} {l : ℕ} {a : ℕ → Entry} (h : Sorted D l 128 a) (hl : l < 128) {s : ℕ} (hs : s < 128) (hD : D (128 * s + l) < ⊤)
    (hr : below D l 128 (key (pt D (128 * s + l))) < 5) :
    a (below D l 128 (key (pt D (128 * s + l)))) = pt D (128 * s + l) := by
  set r := below D l 128 (key (pt D (128 * s + l))) with hrdef
  have hpad : key (pt D (128 * s + l)) ≤ key pad := by
    unfold pt; rw [if_pos hD]; exact key_le.2 (Or.inl hD)
  apply key_inj
  apply le_antisymm
  · by_contra hc
    have hc := not_le.1 hc
    have hp := h.le_pad le_rfl hl hr
    have h1 : ¬ r < below D l 128 (key (a r)) := fun hh => lt_irrefl _ ((h.lt_iff r hr _ hp).2 hh)
    apply h1
    rw [hrdef]
    unfold below
    refine Finset.card_lt_card ⟨fun t ht => ?_, fun hsub => ?_⟩
    · rw [Finset.mem_filter] at ht ⊢
      exact ⟨ht.1, ht.2.trans hc⟩
    · have := hsub (Finset.mem_filter.2 ⟨Finset.mem_range.2 hs, hc⟩)
      exact lt_irrefl _ (Finset.mem_filter.1 this).2
  · by_contra hc
    exact lt_irrefl _ ((h.lt_iff r hr _ hpad).1 (not_le.1 hc))

/-- A place with at least that many of its class below `x` before it is not below `x`. -/
theorem Sorted.not_lt {D : ℕ → EReal} {l : ℕ} {a : ℕ → Entry} (h : Sorted D l 128 a) {x : Key} (hx : x ≤ key pad)
    (hr : below D l 128 x < 5) : x ≤ key (a (below D l 128 x)) :=
  _root_.not_lt.1 fun hc => lt_irrefl _ ((h.lt_iff _ hr x hx).1 hc)

/-- The order depends on the distances of the points alone. -/
theorem Sorted.congr {D D' : ℕ → EReal} {l : ℕ} {a : ℕ → Entry} (h : Sorted D l 128 a) (hl : l < 128) (hD : ∀ n < 16384, D n = D' n) :
    Sorted D' l 128 a where
  lt_iff j hj x hx := by
    rw [h.lt_iff j hj x hx]
    have e : below D l 128 x = below D' l 128 x := by
      unfold below pt
      refine congrArg Finset.card (Finset.filter_congr fun s hs => ?_)
      rw [hD _ (by have := Finset.mem_range.1 hs; omega)]
    rw [e]
  mem j hj := (h.mem j hj).imp id fun ⟨s, hs, h'⟩ => ⟨s, hs, by rw [← hD _ (by omega)]; exact h'⟩

end Knn

end
-- ==== Proof.Ranking.lean ====
/- The order the reference's sort puts the points in: by distance, and by number among equals. How many points of each
   class stand before the one of a rank. -/
module

public import proofs.«01_k».proof.Proof.Merge
public import Idealize.ShloMosaic.Lib.SortFacts

@[expose] public section

noncomputable section

namespace Knn

open Idealize.ShloMosaic

/-- Point `a` stands before point `b`. -/
def Before {n : ℕ} (d : Fin n → EReal) (a b : Fin n) : Prop := d a < d b ∨ d a = d b ∧ a < b

/-- Putting a point of lesser number than all of an ordered list into it leaves it ordered. -/
theorem ordered_insert {n : ℕ} (d : Fin n → EReal) (R : Fin n → Fin n → Bool) (hR : ∀ a b, R a b = true ↔ d a < d b) (a : Fin n) (l : List (Fin n))
    (ha : ∀ b ∈ l, a < b) (hl : l.Pairwise (Before d)) : (insertBefore R a l).Pairwise (Before d) := by
  induction l with
  | nil => exact List.pairwise_singleton _ _
  | cons b l ih =>
    have hb := List.pairwise_cons.1 hl
    rw [insertBefore]
    by_cases h : R b a = true
    · rw [if_pos h]
      refine List.pairwise_cons.2 ⟨fun x hx => ?_, ih (fun x hx => ha x (List.mem_cons_of_mem _ hx)) hb.2⟩
      rcases List.mem_cons.1 ((perm_insertBefore R a l).mem_iff.1 hx) with e | e
      · rw [e]; exact Or.inl ((hR _ _).1 h)
      · exact hb.1 x e
    · rw [if_neg h]
      have hab : d a ≤ d b := not_lt.1 fun hh => h ((hR _ _).2 hh)
      refine List.pairwise_cons.2 ⟨fun x hx => ?_, hl⟩
      have hax : d a ≤ d x := by
        rcases List.mem_cons.1 hx with e | e
        · rw [e]; exact hab
        · rcases hb.1 x e with h' | h'
          · exact hab.trans h'.le
          · exact hab.trans h'.1.le
      exact hax.lt_or_eq.imp id fun e => ⟨e, ha x hx⟩

/-- The sort of an ascending list of points by distance alone is ordered by distance and then number. -/
theorem ordered_sort {n : ℕ} (d : Fin n → EReal) (R : Fin n → Fin n → Bool) (hR : ∀ a b, R a b = true ↔ d a < d b) (l : List (Fin n))
    (hl : l.Pairwise (· < ·)) : (stableSort R l).Pairwise (Before d) := by
  induction l with
  | nil => exact List.Pairwise.nil
  | cons a l ih =>
    have hc := List.pairwise_cons.1 hl
    exact ordered_insert d R hR a _ (fun b hb => hc.1 b ((perm_stableSort R l).mem_iff.1 hb)) (ih hc.2)

/-- Of two ranks the lesser's point stands before the other's. -/
theorem before_of_lt {n : ℕ} (d : Fin n → EReal) (R : Fin n → Fin n → Bool) (hR : ∀ a b, R a b = true ↔ d a < d b) {i j : Fin n} (h : i < j) :
    Before d (sortedFrom R i) (sortedFrom R j) :=
  List.pairwise_iff_get.1 (ordered_sort d R hR (List.finRange n) (List.pairwise_lt_finRange n))
    (i.cast (length_sortPositions n R).symm) (j.cast (length_sortPositions n R).symm) h

/-- Of two points not both precede each other. -/
theorem Before.asymm {n : ℕ} {d : Fin n → EReal} {a b : Fin n} (h : Before d a b) : ¬ Before d b a := by
  rintro (h' | h') <;> rcases h with h | h
  · exact lt_asymm h h'
  · exact h'.ne h.1.symm
  · exact h.ne h'.1.symm
  · exact lt_asymm h.2 h'.2

/-- The ranks before rank `k` hold the points before its point. -/
theorem before_iff {n : ℕ} (d : Fin n → EReal) (R : Fin n → Fin n → Bool) (hR : ∀ a b, R a b = true ↔ d a < d b) (i j : Fin n) :
    Before d (sortedFrom R i) (sortedFrom R j) ↔ i < j := by
  refine ⟨fun h => ?_, before_of_lt d R hR⟩
  rcases lt_trichotomy i j with h' | h' | h'
  · exact h'
  · rw [h'] at h; exact absurd h h.asymm
  · exact absurd h (before_of_lt d R hR h').asymm

/-- The points of the first ranks, and how they meet the table's classes: distinct points below `+∞`, each of its class's
    rank the number of earlier ones in the class. -/
structure Ranks (D : ℕ → EReal) (K : ℕ) (σ : ℕ → ℕ) : Prop where
  lt : ∀ k < K, σ k < 16384
  fin : ∀ k < K, D (σ k) < ⊤
  below_eq : ∀ k < K, ∀ l < 128, below D l 128 (key (pt D (σ k))) = ((Finset.range k).filter fun j => σ j % 128 = l).card

/-- Order of two points, read off distances and numbers. -/
theorem key_pt_lt {D : ℕ → EReal} {m n : ℕ} (hm : m < 16384) (hn : n < 16384) (hD : D n < ⊤) :
    key (pt D m) < key (pt D n) ↔ D m < D n ∨ D m = D n ∧ m < n := by
  have e : ∀ {x : ℕ}, x < 16384 → (BitVec.ofNat 32 x).toNat = x := fun h => by
    rw [BitVec.toNat_ofNat]; exact Nat.mod_eq_of_lt (by omega)
  have hpn : pt D n = (D n, BitVec.ofNat 32 n) := if_pos hD
  rw [hpn]
  by_cases hDm : D m < ⊤
  · have hpm : pt D m = (D m, BitVec.ofNat 32 m) := if_pos hDm
    rw [hpm, key_lt, e hm, e hn]
  · have hpm : pt D m = pad := if_neg hDm
    have htop : D m = ⊤ := top_le_iff.1 (not_lt.1 hDm)
    rw [hpm, key_lt, htop]
    refine iff_of_false ?_ ?_
    · rintro (h | h)
      · exact absurd h (not_lt.2 le_top)
      · exact hD.ne h.1.symm
    · rintro (h | h)
      · exact absurd h (not_lt.2 le_top)
      · exact hD.ne h.1.symm

/-- The reference's order gives such ranks as far as the distances are below `+∞`. -/
theorem ranks_of_sort (D : ℕ → EReal) (R : Fin 16384 → Fin 16384 → Bool) (hR : ∀ a b, R a b = true ↔ D a.val < D b.val) (K : ℕ) (hK : K ≤ 16384)
    (σ : ℕ → ℕ) (hσ : ∀ (k : ℕ) (h : k < K), σ k = (sortedFrom R ⟨k, h.trans_le hK⟩).val)
    (hfin : ∀ k < K, D (σ k) < ⊤) : Ranks D K σ where
  lt k hk := by rw [hσ k hk]; exact (sortedFrom R _).isLt
  fin := hfin
  below_eq k hk l hl := by
    have hlt : σ k < 16384 := by rw [hσ k hk]; exact (sortedFrom R _).isLt
    unfold below
    symm
    have hkey : ∀ i : Fin 16384, key (pt D (sortedFrom R i).val) < key (pt D (σ k)) ↔ i.val < k := by
      intro i
      rw [key_pt_lt (sortedFrom R i).isLt hlt (hfin k hk), hσ k hk]
      exact before_iff (fun a => D a.val) R hR i ⟨k, hk.trans_le hK⟩
    refine Finset.card_bij (fun j _ => σ j / 128) ?_ ?_ ?_
    · intro j hj
      have hj := Finset.mem_filter.1 hj
      have hjk : j < k := Finset.mem_range.1 hj.1
      have hjK : j < K := hjk.trans hk
      have hjlt : σ j < 16384 := by rw [hσ j hjK]; exact (sortedFrom R _).isLt
      rw [Finset.mem_filter, Finset.mem_range]
      have e : 128 * (σ j / 128) + l = σ j := by have := hj.2; omega
      refine ⟨by omega, ?_⟩
      rw [e, hσ j hjK]
      exact (hkey _).2 hjk
    · intro j hj j' hj' e
      have hj := Finset.mem_filter.1 hj
      have hj' := Finset.mem_filter.1 hj'
      have hjK : j < K := (Finset.mem_range.1 hj.1).trans hk
      have hjK' : j' < K := (Finset.mem_range.1 hj'.1).trans hk
      have e' : σ j = σ j' := by have := hj.2; have := hj'.2; omega
      rw [hσ j hjK, hσ j' hjK'] at e'
      exact Fin.mk.inj (sortedFrom_injective R (Fin.ext e'))
    · intro s hs
      have hs := Finset.mem_filter.1 hs
      have hs1 : s < 128 := Finset.mem_range.1 hs.1
      obtain ⟨i, hi⟩ := sortedFrom_surjective R ⟨128 * s + l, by omega⟩
      have hi' : (sortedFrom R i).val = 128 * s + l := by rw [hi]
      have hik : i.val < k := (hkey i).1 (by rw [hi']; exact hs.2)
      have hσi : σ i.val = 128 * s + l := by rw [hσ i.val (hik.trans hk), ← hi']
      refine ⟨i.val, Finset.mem_filter.2 ⟨Finset.mem_range.2 hik, ?_⟩, ?_⟩
      · rw [hσi]; omega
      · rw [hσi]; omega

end Knn

end
-- ==== Proof.Extract.lean ====
/- The rounds over the extended reals, for one query: each takes the least first entry of the 128 classes and drops it
   from its class. With at most five of the ranks wanted in one class, round `k` answers the point of rank `k`. -/
module

public import proofs.«01_k».proof.Proof.Ranking

@[expose] public section

noncomputable section

namespace Knn

open Idealize.ShloMosaic

/-- The least first value of the classes. -/
def leastVal (A : Fin 128 → ℕ → Entry) : EReal := Finset.univ.fold min ⊤ fun l => (A l 0).1

/-- The least point number (as a signed word) among the classes whose first value is that. -/
def leastNum (A : Fin 128 → ℕ → Entry) : BitVec 32 :=
  Finset.univ.fold IntOp.minsi 2147483647#32 fun l => if (A l 0).1 = leastVal A then (A l 0).2 else 1073741824#32

/-- One round: the class of that value and number drops its first entry. -/
def dropLeast (A : Fin 128 → ℕ → Entry) (l : Fin 128) (j : ℕ) : Entry :=
  if (A l 0).1 = leastVal A ∧ (A l 0).2 = leastNum A then A l (j + 1) else A l j

/-- A minimum folded over words is the minimum of their values as integers. -/
theorem toInt_fold_minsi {ι : Type} (s : Finset ι) (b : BitVec 32) (f : ι → BitVec 32) :
    (s.fold IntOp.minsi b f).toInt = s.fold min b.toInt fun i => (f i).toInt := by
  classical
  induction s using Finset.induction_on with
  | empty => rfl
  | insert a s ha ih =>
    rw [Finset.fold_insert ha, Finset.fold_insert ha, ← ih]
    unfold IntOp.minsi
    split_ifs with h
    · exact (min_eq_left (BitVec.slt_iff_toInt_lt.1 h).le).symm
    · exact (min_eq_right (not_lt.1 fun hh => h (BitVec.slt_iff_toInt_lt.2 hh))).symm

/-- A word up to 2^30 is the same number signed and unsigned. -/
theorem toInt_of_le {x : BitVec 32} (h : x.toNat ≤ 1073741824) : x.toInt = x.toNat := by
  rw [BitVec.toInt_eq_toNat_of_lt (by omega)]

/-- If one class's first entry is strictly the least, the round finds it and drops it. -/
theorem round_of_least (A : Fin 128 → ℕ → Entry) (l₀ : Fin 128) (hw : ∀ l, (A l 0).2.toNat ≤ 1073741824)
    (h : ∀ l, l ≠ l₀ → key (A l₀ 0) < key (A l 0)) :
    leastNum A = (A l₀ 0).2 ∧ ∀ l j, dropLeast A l j = if l = l₀ then A l (j + 1) else A l j := by
  have hv : leastVal A = (A l₀ 0).1 := by
    refine le_antisymm ((Finset.le_fold_min _).1 le_rfl |>.2 l₀ (Finset.mem_univ _)) ((Finset.le_fold_min _).2 ⟨le_top, fun l _ => ?_⟩)
    rcases eq_or_ne l l₀ with e | e
    · rw [e]
    · exact fst_le_of_key_le (h l e).le
  have hn : leastNum A = (A l₀ 0).2 := by
    apply BitVec.eq_of_toInt_eq
    unfold leastNum
    rw [toInt_fold_minsi, hv]
    refine le_antisymm ?_ ?_
    · have := (Finset.le_fold_min (s := Finset.univ) (b := (2147483647#32).toInt) (f := fun l => (if (A l 0).1 = (A l₀ 0).1 then (A l 0).2 else 1073741824#32).toInt) _).1 le_rfl |>.2 l₀ (Finset.mem_univ _)
      rwa [if_pos rfl] at this
    · refine (Finset.le_fold_min _).2 ⟨?_, fun l _ => ?_⟩
      · have := hw l₀
        rw [toInt_of_le this]
        have e : (2147483647#32).toInt = 2147483647 := by decide
        rw [e]; omega
      · split_ifs with e
        · rw [toInt_of_le (hw l₀), toInt_of_le (hw l)]
          rcases eq_or_ne l l₀ with e' | e'
          · rw [e']
          · rcases key_lt.1 (h l e') with h' | h'
            · exact absurd e.symm h'.ne
            · exact_mod_cast h'.2.le
        · have := hw l₀
          rw [toInt_of_le this, toInt_of_le (by decide)]
          have e' : (1073741824#32).toNat = 1073741824 := by decide
          rw [e']; exact_mod_cast this
  refine ⟨hn, fun l j => ?_⟩
  unfold dropLeast
  rw [hv, hn]
  rcases eq_or_ne l l₀ with e | e
  · rw [if_pos e, e, if_pos ⟨rfl, rfl⟩]
  · rw [if_neg e, if_neg]
    rintro ⟨e1, e2⟩
    exact (h l e).ne (congrArg key (Prod.ext e1.symm e2.symm))

/-- The table's five entries of a class with pads after them. -/
def padded (a : ℕ → Entry) (j : ℕ) : Entry := if j < 5 then a j else pad

/-- The ranks before rank `k` in class `l`. -/
def met (σ : ℕ → ℕ) (k l : ℕ) : ℕ := ((Finset.range k).filter fun j => σ j % 128 = l).card

/-- One more rank adds one to the count of its own class. -/
theorem met_succ (σ : ℕ → ℕ) (k l : ℕ) : met σ (k + 1) l = met σ k l + if σ k % 128 = l then 1 else 0 := by
  unfold met
  rw [Finset.range_add_one, Finset.filter_insert]
  split_ifs with h
  · rw [Finset.card_insert_of_notMem (by simp)]
  · rfl

/-- The table before round `k`. -/
def rounds (A : Fin 128 → ℕ → Entry) : ℕ → Fin 128 → ℕ → Entry
  | 0 => A
  | k + 1 => dropLeast (rounds A k)

/-- Rank `k`'s class shows its point, and every other class an entry above it. -/
theorem first_of_rank {D : ℕ → EReal} {K : ℕ} {σ : ℕ → ℕ} (hσ : Ranks D K σ) {k : ℕ} (hk : k < K) (a : ℕ → ℕ → Entry)
    (ha : ∀ l < 128, Sorted D l 128 (a l)) (hm : met σ k (σ k % 128) < 5) (l : ℕ) (hl : l < 128) :
    (l = σ k % 128 → padded (a l) (met σ k l) = pt D (σ k)) ∧ (l ≠ σ k % 128 → key (pt D (σ k)) < key (padded (a l) (met σ k l))) := by
  have hlt := hσ.lt k hk
  have hfin := hσ.fin k hk
  have hbel := hσ.below_eq k hk l hl
  have hpt : pt D (σ k) = (D (σ k), BitVec.ofNat 32 (σ k)) := if_pos hfin
  have hpad : key (pt D (σ k)) < key pad := by rw [hpt]; exact key_lt.2 (Or.inl hfin)
  constructor
  · intro e
    rw [← e] at hm
    have e' : 128 * (σ k / 128) + l = σ k := by omega
    have := (ha l hl).at_rank hl (s := σ k / 128) (by omega) (by rw [e']; exact hfin) (by rw [e', hbel]; exact hm)
    rw [e', hbel] at this
    unfold padded
    rw [if_pos hm]
    exact this
  · intro e
    unfold padded
    split_ifs with h5
    · have hle := (ha l hl).not_lt hpad.le (by rw [hbel]; exact h5)
      rw [hbel] at hle
      refine lt_of_le_of_ne hle fun he => ?_
      have he := key_inj he
      rcases (ha l hl).mem _ h5 with h' | ⟨s, hs, hD, h'⟩
      · rw [show a l (met σ k l) = pad from h'] at he; rw [he] at hpad; exact lt_irrefl _ hpad
      · rw [show a l (met σ k l) = _ from h', hpt] at he
        have := congrArg BitVec.toNat (congrArg Prod.snd he)
        rw [show ((D (128 * s + l), BitVec.ofNat 32 (128 * s + l)) : Entry).2.toNat = 128 * s + l from toNat_num hs hl,
          show ((D (σ k), BitVec.ofNat 32 (σ k)) : Entry).2.toNat = σ k by
            show (BitVec.ofNat 32 (σ k)).toNat = σ k
            rw [BitVec.toNat_ofNat]; exact Nat.mod_eq_of_lt (by omega)] at this
        omega
    · exact hpad

/-- Every number of the table is a word of at most the pad's. -/
theorem num_le {D : ℕ → EReal} {l : ℕ} (hl : l < 128) {a : ℕ → Entry} (ha : Sorted D l 128 a) (j : ℕ) : (padded a j).2.toNat ≤ 1073741824 := by
  unfold padded
  split_ifs with h
  · rcases ha.mem j h with e | ⟨s, hs, -, e⟩
    · rw [e]; decide
    · rw [e]
      show (BitVec.ofNat 32 (128 * s + l)).toNat ≤ _
      rw [toNat_num hs hl]; omega
  · decide

/-- Before round `k` each class has dropped as many entries as ranks before `k` are in it. -/
theorem rounds_eq {D : ℕ → EReal} {K : ℕ} {σ : ℕ → ℕ} (hσ : Ranks D K σ) (a : ℕ → ℕ → Entry) (ha : ∀ l < 128, Sorted D l 128 (a l))
    (hm : ∀ k < K, met σ k (σ k % 128) < 5) (k : ℕ) (hk : k ≤ K) (l : Fin 128) (j : ℕ) :
    rounds (fun l => padded (a l.val)) k l j = padded (a l.val) (met σ k l.val + j) := by
  induction k generalizing l j with
  | zero => simp [rounds, met]
  | succ k ih =>
    have ih' := fun l j => ih (Nat.le_of_succ_le hk) l j
    have hkK : k < K := hk
    have hmod : σ k % 128 < 128 := Nat.mod_lt _ (by norm_num)
    have hl₀ := (first_of_rank hσ hkK a ha (hm k hkK) (σ k % 128) hmod).1 rfl
    have hr := round_of_least (rounds (fun l => padded (a l.val)) k) ⟨σ k % 128, hmod⟩
      (fun l => by rw [ih']; exact num_le l.isLt (ha l.val l.isLt) _)
      (fun l hl => by
        rw [ih', ih', Nat.add_zero, Nat.add_zero, hl₀]
        exact (first_of_rank hσ hkK a ha (hm k hkK) l.val l.isLt).2 fun e => hl (Fin.ext e))
    rw [rounds, hr.2 l j, met_succ]
    rcases eq_or_ne l ⟨σ k % 128, hmod⟩ with e | e
    · rw [if_pos e, ih', if_pos (by rw [e])]
      congr 1; omega
    · rw [if_neg e, ih', if_neg fun e' => e (Fin.ext e'.symm)]
      rfl

/-- ROUND `k` ANSWERS THE POINT OF RANK `k`. -/
theorem leastNum_rounds {D : ℕ → EReal} {K : ℕ} {σ : ℕ → ℕ} (hσ : Ranks D K σ) (a : ℕ → ℕ → Entry) (ha : ∀ l < 128, Sorted D l 128 (a l))
    (hm : ∀ k < K, met σ k (σ k % 128) < 5) (k : ℕ) (hk : k < K) :
    leastNum (rounds (fun l => padded (a l.val)) k) = BitVec.ofNat 32 (σ k) := by
  have ih' := fun l j => rounds_eq hσ a ha hm k hk.le l j
  have hmod : σ k % 128 < 128 := Nat.mod_lt _ (by norm_num)
  have hl₀ := (first_of_rank hσ hk a ha (hm k hk) (σ k % 128) hmod).1 rfl
  have hr := round_of_least (rounds (fun l => padded (a l.val)) k) ⟨σ k % 128, hmod⟩
    (fun l => by rw [ih']; exact num_le l.isLt (ha l.val l.isLt) _)
    (fun l hl => by
      rw [ih', ih', Nat.add_zero, Nat.add_zero, hl₀]
      exact (first_of_rank hσ hk a ha (hm k hk) l.val l.isLt).2 fun e => hl (Fin.ext e))
  rw [hr.1, ih', Nat.add_zero, hl₀]
  unfold pt
  rw [if_pos (hσ.fin k hk)]

/-- At most five ranks of one class leave fewer than five before each of them. -/
theorem met_lt {K : ℕ} {σ : ℕ → ℕ} (h : ∀ k < K, met σ K (σ k % 128) ≤ 5) (k : ℕ) (hk : k < K) : met σ k (σ k % 128) < 5 := by
  have h1 : met σ (k + 1) (σ k % 128) ≤ met σ K (σ k % 128) :=
    Finset.card_le_card (Finset.filter_subset_filter _ (Finset.range_subset_range.2 hk))
  rw [met_succ, if_pos rfl] at h1
  have := h k hk
  omega

/-! The converse: what a round can answer at all. -/

/-- A class's entries, after any number of rounds, are among those it began with. -/
theorem rounds_mem (A : Fin 128 → ℕ → Entry) (k : ℕ) (l : Fin 128) (j : ℕ) : ∃ j', rounds A k l j = A l j' := by
  induction k generalizing j with
  | zero => exact ⟨j, rfl⟩
  | succ k ih =>
    rw [rounds, dropLeast]
    split_ifs
    · exact ih (j + 1)
    · exact ih j

/-- A folded minimum of words is its start or one of the words. -/
theorem fold_minsi_mem {ι : Type} (s : Finset ι) (b : BitVec 32) (f : ι → BitVec 32) :
    s.fold IntOp.minsi b f = b ∨ ∃ i, s.fold IntOp.minsi b f = f i := by
  classical
  induction s using Finset.induction_on with
  | empty => exact Or.inl rfl
  | insert a s ha ih =>
    rw [Finset.fold_insert ha]
    by_cases h : (f a).slt (s.fold IntOp.minsi b f) = true
    · exact Or.inr ⟨a, if_pos h⟩
    · have e : IntOp.minsi (f a) (s.fold IntOp.minsi b f) = s.fold IntOp.minsi b f := if_neg h
      rw [e]
      exact ih

/-- What a round answers, if it is a point's number, is the number of a class's first entry. -/
theorem leastNum_mem (A : Fin 128 → ℕ → Entry) {n : ℕ} (hn : n < 16384) (h : leastNum A = BitVec.ofNat 32 n) : ∃ l, (A l 0).2 = BitVec.ofNat 32 n := by
  have hne : ∀ w : BitVec 32, 16384 ≤ w.toNat → w ≠ BitVec.ofNat 32 n := fun w hw e => by
    have e := congrArg BitVec.toNat e
    rw [BitVec.toNat_ofNat] at e
    omega
  rw [← h]
  rcases fold_minsi_mem Finset.univ 2147483647#32 fun l => if (A l 0).1 = leastVal A then (A l 0).2 else 1073741824#32 with e | ⟨l, e⟩
  · exact absurd (e.symm.trans h) (hne _ (by decide))
  · refine ⟨l, ?_⟩
    have e : leastNum A = if (A l 0).1 = leastVal A then (A l 0).2 else 1073741824#32 := e
    by_cases hl : (A l 0).1 = leastVal A
    · rw [if_pos hl] at e; exact e.symm
    · rw [if_neg hl] at e; exact absurd (e.symm.trans h) (hne _ (by decide))

/-- A POINT ANSWERED IN ANY ROUND has a distance below `+∞` and fewer than five points of its class before it. -/
theorem of_answered {D : ℕ → EReal} (A : Fin 128 → ℕ → Entry) (hA : ∀ l : Fin 128, Sorted D l.val 128 (A l)) (hp : ∀ l, A l = padded (A l))
    {r n : ℕ} (hn : n < 16384) (h : leastNum (rounds A r) = BitVec.ofNat 32 n) : D n < ⊤ ∧ below D (n % 128) 128 (key (pt D n)) < 5 := by
  obtain ⟨l, hl⟩ := leastNum_mem _ hn h
  obtain ⟨j, hj⟩ := rounds_mem A r l 0
  rw [hj] at hl
  have hpad : (pad.2 : BitVec 32) ≠ BitVec.ofNat 32 n := fun e => by
    have e := congrArg BitVec.toNat e
    rw [BitVec.toNat_ofNat, show pad.2.toNat = 1073741824 from rfl] at e
    omega
  have hj5 : j < 5 := by
    by_contra h5
    rw [hp l, padded, if_neg h5] at hl
    exact hpad hl
  rcases (hA l).mem j hj5 with e | ⟨s, hs, hD, e⟩
  · rw [e] at hl; exact absurd hl hpad
  · have hnum : 128 * s + l.val = n := by
      rw [e] at hl
      have hl := congrArg BitVec.toNat hl
      rw [show ((D (128 * s + l.val), BitVec.ofNat 32 (128 * s + l.val)) : Entry).2.toNat = 128 * s + l.val from toNat_num hs l.isLt,
        BitVec.toNat_ofNat, Nat.mod_eq_of_lt (by omega)] at hl
      exact hl
    rw [hnum] at hD e
    have hpt : pt D n = (D n, BitVec.ofNat 32 n) := if_pos hD
    have hmod : n % 128 = l.val := by have := l.isLt; omega
    refine ⟨hD, ?_⟩
    have hle : key (pt D n) ≤ key pad := by rw [hpt]; exact (key_lt.2 (Or.inl hD)).le
    have hlt := (hA l).lt_iff j hj5 (key (pt D n)) hle
    rw [e, hpt] at hlt
    rw [hmod, hpt]
    exact lt_of_le_of_lt (not_lt.1 fun hh => lt_irrefl _ (hlt.2 hh)) hj5

/-- Fewer than five of a class before each of its ranks leave at most five in all. -/
theorem met_le {σ : ℕ → ℕ} (K : ℕ) (h : ∀ k < K, met σ k (σ k % 128) < 5) (l : ℕ) : met σ K l ≤ 5 := by
  induction K with
  | zero => exact Nat.zero_le _
  | succ K ih =>
    rw [met_succ]
    split_ifs with e
    · have := h K (Nat.lt_succ_self K)
      rw [e] at this
      omega
    · exact ih fun k hk => h k (Nat.lt_succ_of_lt hk)

end Knn

end
-- ==== Proof.Cells.lean ====
/- The kernel's table read entry by entry at the ideal instance: a class of a query holds five entries, one trip merges
   one entry into each class, and one round drops the least. -/
module

public import proofs.«01_k».proof.Proof.Trips
public import proofs.«01_k».proof.Proof.Extract

@[expose] public section

set_option maxRecDepth 16384

noncomputable section

namespace Cert.KernelIdeal.Val

open Cert.KernelIdeal Cert.KernelIdeal.Gen Idealize.ShloMosaic Idealize.ShloMosaic.TcCoe Idealize.SL.Sem Knn

/-- Values and point numbers read at a class and a query. -/
def Pairs.at (a : Pairs Ideal) (l q : Fin 128) : Entry := (a.1 (ix2 l q), a.2 (ix2 l q))

/-- The entries of class `l` of query `q`, pads after the fifth. -/
def Tab.cell (t : Tab Ideal) (l q : Fin 128) : ℕ → Entry
  | 0 => Pairs.at (t.v0, t.n0) l q
  | 1 => Pairs.at (t.v1, t.n1) l q
  | 2 => Pairs.at (t.v2, t.n2) l q
  | 3 => Pairs.at (t.v3, t.n3) l q
  | 4 => Pairs.at (t.v4, t.n4) l q
  | _ + 5 => pad

/-- The word of `+∞`. -/
theorem inf_eq : Ideal.ofBits .f32 0x7F800000#32 = (⊤ : EReal) := by
  rfl

/-- The smaller of two compared rows, at one place. -/
theorem lo_at (a b : Pairs Ideal) (l q : Fin 128) : (loP a b).at l q = lo (a.at l q) (b.at l q) := by
  unfold Pairs.at loP lo
  pointwise
  split_ifs <;> rfl

/-- The larger of two compared rows, at one place. -/
theorem hi_at (a b : Pairs Ideal) (l q : Fin 128) : (hiP a b).at l q = hi (a.at l q) (b.at l q) := by
  unfold Pairs.at hiP hi
  pointwise
  split_ifs <;> rfl

/-- Before the first trip every place holds the empty entry. -/
theorem carry0_cell (l q : Fin 128) (j : ℕ) : (ofCarry (carry0 (F := Ideal))).cell l q j = pad := by
  have h : Pairs.at (k0_pay3 (F := Ideal), k0_pay4) l q = pad := by
    unfold Pairs.at Knn.pad k0_pay3 k0_pay4
    pointwise
    rw [← inf_eq]
  match j with
  | 0 => exact h
  | 1 => exact h
  | 2 => exact h
  | 3 => exact h
  | 4 => exact h
  | _ + 5 => rfl

/-- A trip merges its entry into each class whose five values ascend. -/
theorem merge_cell (t : Tab Ideal) (x : Pairs Ideal) (l q : Fin 128) (hs : ∀ i j, i ≤ j → j < 5 → (t.cell l q i).1 ≤ (t.cell l q j).1)
    (j : ℕ) (hj : j < 5) : (t.merge x).cell l q j = ins (t.cell l q) (x.at l q) j := by
  have m4 : (t.moving4 x).at l q = if (x.at l q).1 < (t.cell l q 4).1 then x.at l q else t.cell l q 4 := by
    unfold Tab.moving4; rw [lo_at]; rfl
  have m3 : (t.moving3 x).at l q = if (x.at l q).1 < (t.cell l q 3).1 then x.at l q else t.cell l q 3 := by
    unfold Tab.moving3; rw [lo_at, m4]; exact lo_step (hs 3 4 (by norm_num) (by norm_num))
  have m2 : (t.moving2 x).at l q = if (x.at l q).1 < (t.cell l q 2).1 then x.at l q else t.cell l q 2 := by
    unfold Tab.moving2; rw [lo_at, m3]; exact lo_step (hs 2 3 (by norm_num) (by norm_num))
  have m1 : (t.moving1 x).at l q = if (x.at l q).1 < (t.cell l q 1).1 then x.at l q else t.cell l q 1 := by
    unfold Tab.moving1; rw [lo_at, m2]; exact lo_step (hs 1 2 (by norm_num) (by norm_num))
  have up : ∀ i, ins (t.cell l q) (x.at l q) (i + 1) = if ¬ (x.at l q).1 < (t.cell l q (i + 1)).1 then t.cell l q (i + 1)
      else if ¬ (x.at l q).1 < (t.cell l q i).1 then x.at l q else t.cell l q i := fun i => by
    unfold ins
    rw [Nat.add_sub_cancel]
    simp only [Nat.add_eq_zero_iff, one_ne_zero, and_false, false_or]
  match j, hj with
  | 0, _ =>
    show (loP (t.v0, t.n0) (t.moving1 x)).at l q = _
    rw [lo_at, m1]
    refine (lo_step (hs 0 1 (by norm_num) (by norm_num))).trans ?_
    unfold ins
    rw [if_pos (Or.inl rfl), ite_not]
  | 1, _ =>
    show (hiP (t.v0, t.n0) (t.moving1 x)).at l q = _
    rw [hi_at, m1, up 0]
    exact hi_step (hs 0 1 (by norm_num) (by norm_num))
  | 2, _ =>
    show (hiP (t.v1, t.n1) (t.moving2 x)).at l q = _
    rw [hi_at, m2, up 1]
    exact hi_step (hs 1 2 (by norm_num) (by norm_num))
  | 3, _ =>
    show (hiP (t.v2, t.n2) (t.moving3 x)).at l q = _
    rw [hi_at, m3, up 2]
    exact hi_step (hs 2 3 (by norm_num) (by norm_num))
  | 4, _ =>
    show (hiP (t.v3, t.n3) (t.moving4 x)).at l q = _
    rw [hi_at, m4, up 3]
    exact hi_step (hs 3 4 (by norm_num) (by norm_num))
  | j + 5, hj => omega

/-- All the classes of a query. -/
def Tab.col (t : Tab Ideal) (q : Fin 128) (l : Fin 128) : ℕ → Entry := t.cell l q

/-- The point number a round answers with, at one query. -/
theorem least_eq (t : Tab Ideal) (q : Fin 128) : least t.v0 t.n0 (ix2 0 q) = leastNum (t.col q) := by
  unfold least leastNum leastVal
  pointwise [sel]
  rw [inf_eq]
  rfl

/-- Two bits are both set when their conjunction is. -/
theorem both (a b : Bool) : IntOp.andi (BitVec.ofBool a) (BitVec.ofBool b) = 1#1 ↔ a = true ∧ b = true := by
  revert a b; decide

/-- A choice by a bit is the choice by what the bit says. -/
theorem select_of {α : Type} {c : BitVec 1} {P : Prop} [Decidable P] (h : c = 1#1 ↔ P) {a b : α} : Scalar.select c a b = if P then a else b := by
  unfold Scalar.select
  by_cases hP : P
  · exact (if_pos (h.2 hP)).trans (if_pos hP).symm
  · exact (if_neg (mt h.1 hP)).trans (if_neg hP).symm

/-- A round drops the least entry from its class. -/
theorem pop_cell (t : Tab Ideal) (q l : Fin 128) (j : ℕ) : t.pop.col q l j = dropLeast (t.col q) l j := by
  have h : ∀ a b : Pairs Ideal, Pairs.at (select (win t.v0 t.n0) a.1 b.1, select (win t.v0 t.n0) a.2 b.2) l q
      = if (t.col q l 0).1 = leastVal (t.col q) ∧ (t.col q l 0).2 = leastNum (t.col q) then a.at l q else b.at l q := by
    intro a b
    rw [← least_eq]
    unfold Pairs.at leastVal
    pointwise [win, sel]
    rw [inf_eq]
    have hc : IntOp.andi (BitVec.ofBool (decide (t.v0 (ix2 l q) = Finset.univ.fold min (⊤ : EReal) fun x => t.v0 (ix2 x q))))
          (IntOp.cmpi CmpIPredicate.eq (t.n0 (ix2 l q)) (least t.v0 t.n0 (ix2 0 q))) = 1#1
        ↔ (t.col q l 0).1 = (Finset.univ.fold min (⊤ : EReal) fun l => (t.col q l 0).1) ∧ (t.col q l 0).2 = least t.v0 t.n0 (ix2 0 q) := by
      show IntOp.andi (BitVec.ofBool (decide ((t.col q l 0).1 = _))) (BitVec.ofBool ((t.col q l 0).2 == _)) = 1#1 ↔ _
      exact (both _ _).trans (and_congr decide_eq_true_iff beq_iff_eq)
    rw [select_of hc, select_of hc]
    by_cases hh : (t.col q l 0).1 = (Finset.univ.fold min (⊤ : EReal) fun l => (t.col q l 0).1) ∧ (t.col q l 0).2 = least t.v0 t.n0 (ix2 0 q)
    · rw [if_pos hh, if_pos hh, if_pos hh]
    · rw [if_neg hh, if_neg hh, if_neg hh]
  match j with
  | 0 => exact h (t.v1, t.n1) (t.v0, t.n0)
  | 1 => exact h (t.v2, t.n2) (t.v1, t.n1)
  | 2 => exact h (t.v3, t.n3) (t.v2, t.n2)
  | 3 => exact h (t.v4, t.n4) (t.v3, t.n3)
  | 4 => exact (h (k0_pay3, k0_pay4) (t.v4, t.n4)).trans (by rw [show Pairs.at (k0_pay3, k0_pay4) l q = Knn.pad from carry0_cell l q 0]; rfl)
  | j + 5 => exact (ite_self _).symm

/-- The table after `r` rounds. -/
theorem after_cell (t : Tab Ideal) (q : Fin 128) (r : ℕ) : (t.after r).col q = rounds (t.col q) r := by
  induction r with
  | zero => rfl
  | succ r ih => funext l j; rw [Tab.after, pop_cell, ih]; rfl

/-- Storing a round's answer in its row changes that row and no other. -/
theorem put_at (r : ℕ) (hr : r < 32) (a : IVec S1x128 32) (o : IVec S32x128 32) (k : Fin 32) (q : Fin 128) :
    put r a o (ix2 k q) = if k.val = r then a (ix2 0 q) else o (ix2 k q) := by
  unfold put
  pointwise
  have hc : IntOp.cmpi CmpIPredicate.eq (BitVec.ofNat 32 k.val) (BitVec.ofNat 32 r) = 1#1 ↔ k.val = r := by
    show BitVec.ofBool (BitVec.ofNat 32 k.val == BitVec.ofNat 32 r) = 1#1 ↔ _
    rw [show ∀ b : Bool, BitVec.ofBool b = 1#1 ↔ b = true by decide, beq_iff_eq]
    refine ⟨fun h => ?_, fun h => by rw [h]⟩
    have h := congrArg BitVec.toNat h
    rw [BitVec.toNat_ofNat, BitVec.toNat_ofNat] at h
    have := k.isLt
    omega
  exact select_of hc

/-- Row `k` of the answers is round `k`'s. -/
theorem answers_at (t : Tab Ideal) (q : Fin 128) (k : Fin 32) (r : ℕ) (hr : r ≤ 32) (hk : k.val < r) :
    t.answers r (ix2 k q) = leastNum (rounds (t.col q) k.val) := by
  induction r with
  | zero => omega
  | succ r ih =>
    rw [Tab.answers, put_at r hr]
    split_ifs with h
    · rw [least_eq, after_cell, h]
    · exact ih (by omega) (by omega)

/-- A place's entries past the fifth are empty. -/
theorem padded_cell (t : Tab Ideal) (l q : Fin 128) : t.cell l q = padded (t.cell l q) := by
  funext j
  match j with
  | 0 | 1 | 2 | 3 | 4 => rfl
  | j + 5 => exact (if_neg (by omega)).symm

/-- The distances of query `q` in a block, by point number. -/
def distOf (X : FVec Ideal S128x128x128 .f32) (q : Fin 128) (n : ℕ) : EReal :=
  if h : n < 16384 then X (ix3 ⟨n / 128, by omega⟩ ⟨n % 128, by omega⟩ q) else ⊤

/-- A block's one row without its first axis. -/
theorem drop_row (y : FVec Ideal S1x128x128 .f32) (l q : Fin 128) : shapeCast S128x128 y shapeCasts_S1x128x128_S128x128 (ix2 l q) = y (ix3 0 l q) := by
  pointwise

/-- Row `k`'s number of class `l`. -/
theorem row_num (k : ℕ) (l q : Fin 128) :
    addi (iota .tc S128x128 32 [0] iota_S128x128_d0_w32) (broadcast S128x128 (Scalar.muli (Scf.iv 0#32 1#32 k) 128#32)) (ix2 l q)
      = BitVec.ofNat 32 (128 * k + l.val) := by
  generalize hw : Scalar.muli (Scf.iv 0#32 1#32 k) 128#32 = w
  pointwise
  rw [← hw]
  show BitVec.ofNat 32 l.val + (0#32 + BitVec.ofNat 32 k * 1#32) * 128#32 = _
  apply BitVec.eq_of_toNat_eq
  simp only [BitVec.toNat_add, BitVec.toNat_mul, BitVec.toNat_ofNat]
  omega

/-- Row `k` of the scratch holds the distances of the points `128 k`, `128 k + 1`, …, with their numbers. -/
theorem row_at (c : Dev nD) (arg2 : Memref sig .tc .vmem S1x16384x3 .f32) (harg2 : arg2.IsWhole) (arg3 : Memref sig .tc .vmem S1x3x128 .f32) (harg3 : arg3.IsWhole) (arg5 : Memref sig .tc .vmem S128x128x128 .f32)
    (x0 : Vec Ideal S1x16384x3 .f32) (x1 : Vec Ideal S1x3x128 .f32) (k : Fin k0_t1_loop.trips) (l q : Fin 128) :
    (row arg5 (scratch c arg2 harg2 arg3 harg3 arg5 x0 x1) k).at l q
      = (distOf (k0_pay2 x0 x1) q (128 * k.val + l.val), BitVec.ofNat 32 (128 * k.val + l.val)) := by
  have hk : k.val < 128 := trips_eq ▸ k.isLt
  unfold row Pairs.at distOf
  rw [dif_pos (by omega)]
  refine Prod.ext ?_ (row_num k.val l q)
  refine (drop_row _ l q).trans ((congrFun (row_read c arg2 harg2 arg3 harg3 arg5 x0 x1 k) (ix3 0 l q)).trans ?_)
  unfold VecWindow.window
  refine congrArg (k0_pay2 x0 x1) (funext fun a => Fin.ext ?_)
  match a with
  | 0 => show k.val + 1 * 0 = (128 * k.val + l.val) / 128; omega
  | 1 => show 0 + 1 * l.val = (128 * k.val + l.val) % 128; omega
  | 2 => show 0 + 1 * q.val = q.val; omega

/-- THE TABLE THE ROUNDS START FROM holds, per class and query, the five least points in order. -/
theorem looped_sorted (c : Dev nD) (i : grid0.Coords) (arg2 : Memref sig .tc .vmem S1x16384x3 .f32) (harg2 : arg2.IsWhole) (arg3 : Memref sig .tc .vmem S1x3x128 .f32) (harg3 : arg3.IsWhole) (arg4 : Memref sig .tc .vmem S1x32x128 .i32) (harg4 : arg4.IsWhole) (arg5 : Memref sig .tc .vmem S128x128x128 .f32) (harg5 : arg5.IsWhole)
    (x0 : Vec Ideal S1x16384x3 .f32) (x1 : Vec Ideal S1x3x128 .f32) (l q : Fin 128) :
    Sorted (distOf (k0_pay2 x0 x1) q) l.val 128 ((looped c i arg2 harg2 arg3 harg3 arg4 harg4 arg5 harg5 x0 x1).cell l q) := by
  rw [looped_eq]
  have h : ∀ k ≤ 128, Sorted (distOf (k0_pay2 x0 x1) q) l.val k
      ((merged c i arg2 harg2 arg3 harg3 arg4 harg4 arg5 harg5 (scratch c arg2 harg2 arg3 harg3 arg5 x0 x1) k).cell l q) := by
    intro k
    induction k with
    | zero => exact fun _ => Sorted.zero _ _ fun j _ => carry0_cell l q j
    | succ k ih =>
      intro hk
      have hS := ih (Nat.le_of_succ_le hk)
      refine hS.step hk l.isLt fun j hj => ?_
      rw [merged_succ c i arg2 harg2 arg3 harg3 arg4 harg4 arg5 harg5 _ ⟨k, lt_of_lt_of_eq hk trips_eq.symm⟩, merge_cell _ _ l q (fun i j hij hj =>
        fst_le_of_key_le (hS.mono (Nat.le_of_succ_le hk) l.isLt hij hj)) j hj, row_at]
  exact h 128 le_rfl

/-- THE ANSWERS OF THE ROUNDS: from a table of the five least points per class, where the ranks wanted have at most five in
    a class, row `k` holds the point of rank `k`. -/
theorem answers_of_sorted (t : Tab Ideal) (q : Fin 128) (D : ℕ → EReal) (ht : ∀ l : Fin 128, Sorted D l.val 128 (t.cell l q))
    (σ : ℕ → ℕ) (hσ : Ranks D 32 σ) (hm : ∀ k < 32, met σ 32 (σ k % 128) ≤ 5) (k : Fin 32) :
    t.answers 32 (ix2 k q) = BitVec.ofNat 32 (σ k.val) := by
  have ha := answers_at t q k 32 le_rfl k.isLt
  refine ha.trans ?_
  obtain ⟨a, h⟩ : ∃ a : ℕ → ℕ → Entry, ∀ l : Fin 128, a l.val = t.cell l q :=
    ⟨fun l => if h : l < 128 then t.cell ⟨l, h⟩ q else fun _ => Knn.pad, fun l => dif_pos l.isLt⟩
  have e : t.col q = fun l : Fin 128 => padded (a l.val) := by
    funext l
    rw [h l]
    exact padded_cell _ l q
  rw [e]
  exact leastNum_rounds hσ a (fun l hl => (h ⟨l, hl⟩).symm ▸ ht ⟨l, hl⟩) (met_lt hm) k.val k.isLt

end Cert.KernelIdeal.Val

end
-- ==== Proof.Distances.lean ====
/- The distance of a query and a point, in the kernel's block and in the reference's array. -/
module

public import proofs.«01_k».proof.Proof.Cells
public import proofs.«01_k».proof.Proof.Gen.ReferenceIdeal.Run

@[expose] public section

set_option maxRecDepth 16384

noncomputable section

namespace Knn

open Idealize.ShloMosaic

/-- The distance of query `m` and point `n` of batch `b`. -/
def dist (x : (⟨3, ![2, 16384, 3]⟩ : Shape).Idx → EReal) (y : (⟨3, ![2, 4096, 3]⟩ : Shape).Idx → EReal) (b : Fin 2) (m : Fin 4096) (n : Fin 16384) : EReal :=
  Ideal.ofBits .f32 0xC0000000#32 * (∑ k : Fin 3, y (ix3 b m k) * x (ix3 b n k)) + (∑ k : Fin 3, y (ix3 b m k) * y (ix3 b m k))
    + ∑ k : Fin 3, x (ix3 b n k) * x (ix3 b n k)

/-- The same by point number. -/
def distAt (x : (⟨3, ![2, 16384, 3]⟩ : Shape).Idx → EReal) (y : (⟨3, ![2, 4096, 3]⟩ : Shape).Idx → EReal) (b : Fin 2) (m : Fin 4096) (n : ℕ) : EReal :=
  if h : n < 16384 then dist x y b m ⟨n, h⟩ else ⊤

/-- The distance at a point's number is the distance of the point. -/
theorem distAt_val (x : (⟨3, ![2, 16384, 3]⟩ : Shape).Idx → EReal) (y : (⟨3, ![2, 4096, 3]⟩ : Shape).Idx → EReal) (b : Fin 2) (m : Fin 4096) (n : Fin 16384) :
    distAt x y b m n.val = dist x y b m n := dif_pos n.isLt

end Knn

namespace Cert.KernelIdeal.Val

open Cert.KernelIdeal Cert.KernelIdeal.Gen Idealize.ShloMosaic Idealize.ShloMosaic.TcCoe Idealize.SL.Sem Knn

/-- The kernel's block of distances, at row `s`, class `l` and query `q`. -/
theorem pay2_at (x0 : Vec Ideal S1x16384x3 .f32) (x1 : Vec Ideal S1x3x128 .f32) (s l q : Fin 128) :
    k0_pay2 x0 x1 (ix3 s l q) = Ideal.ofBits .f32 0xC0000000#32 * (∑ k : Fin 3, x0 (ix3 0 ⟨s.val * 128 + l.val, by omega⟩ k) * x1 (ix3 0 k q)) + (∑ k : Fin 3, x1 (ix3 0 k q) * x1 (ix3 0 k q))
    + ∑ k : Fin 3, x0 (ix3 0 ⟨s.val * 128 + l.val, by omega⟩ k) * x0 (ix3 0 ⟨s.val * 128 + l.val, by omega⟩ k) := by
  unfold k0_pay2
  pointwise

end Cert.KernelIdeal.Val

namespace Cert.ReferenceIdeal.Val

open Cert.ReferenceIdeal Cert.ReferenceIdeal.Gen Idealize.ShloMosaic Idealize.ShloMosaic.TcCoe Idealize.SL.Sem Knn

/-- The reference's array of distances. -/
def dists (x : FVec Ideal S2x16384x3 .f32) (y : FVec Ideal S2x4096x3 .f32) : FVec Ideal S2x4096x16384 .f32 :=
  addf (addf (mulf (broadcastInDim S2x4096x16384 ![] bcast_S_S2x4096x16384 (constant S_ .f32 0xC0000000#32)) (Host.dotGeneral dot_S2x4096x3_S2x16384x3_S2x4096x16384_2_2_1_1_0_0 none y x)) (broadcastInDim S2x4096x16384 ![0, 1, 2] bcast_S2x4096x1_S2x4096x16384_0_1_2 (broadcastInDim S2x4096x1 ![0, 1] bcast_S2x4096_S2x4096x1_0_1 (Host.reduceAdd (mulf y y) (constant S_ .f32 0x00000000#32) reducesTo_S2x4096x3_S2x4096_d2 h_S_)))) (broadcastInDim S2x4096x16384 ![0, 1, 2] bcast_S2x1x16384_S2x4096x16384_0_1_2 (broadcastInDim S2x1x16384 ![0, 2] bcast_S2x16384_S2x1x16384_0_2 (Host.reduceAdd (mulf x x) (constant S_ .f32 0x00000000#32) reducesTo_S2x16384x3_S2x16384_d2 h_S_)))

/-- The reference's distances, at a query and a point. -/
theorem dists_at (x : FVec Ideal S2x16384x3 .f32) (y : FVec Ideal S2x4096x3 .f32) (b : Fin 2) (m : Fin 4096) (n : Fin 16384) :
    dists x y (ix3 b m n) = dist x y b m n := by
  unfold dists Knn.dist
  pointwise

/-- The first point stands before the second in the reference's order: its value is greater. -/
def greater (x : FVec Ideal S2x4096x16384 .f32) (b : Fin 2) (m : Fin 4096) (a a' : Fin 16384) : Bool := decide (x (ix3 b m a') < x (ix3 b m a))

/-- Moving along the last axis replaces the point. -/
theorem along_at (b : Fin 2) (m : Fin 4096) (n a : Fin 16384) : (ix3 b m n : S2x4096x16384.Idx).along 2 a = ix3 b m a := by
  funext i
  unfold Shape.Idx.along
  match i with
  | 0 => exact Function.update_of_ne (by decide) _ _
  | 1 => exact Function.update_of_ne (by decide) _ _
  | 2 => exact Function.update_self _ _ _

/-- The numbering of the last axis. -/
theorem iota_at (b : Fin 2) (m : Fin 4096) (a : Fin 16384) : iotaInDim S2x4096x16384 32 2 (ix3 b m a) = BitVec.ofNat 32 a.val := rfl

/-- The greatest values of a row and their positions are those of the stable sort by value. -/
theorem topK_at (x : FVec Ideal S2x4096x16384 .f32) (b : Fin 2) (m : Fin 4096) (k : Fin 32) :
    (Host.topK S2x4096x32 2 (FloatOps.cmpfTotal .gt) x sliceFits_S2x4096x16384_S2x4096x32).1 (ix3 b m k)
        = x (ix3 b m (sortedFrom (greater x b m) ⟨k.val, by omega⟩))
      ∧ (Host.topK S2x4096x32 2 (FloatOps.cmpfTotal .gt) x sliceFits_S2x4096x16384_S2x4096x32).2 (ix3 b m k)
        = BitVec.ofNat 32 (sortedFrom (greater x b m) ⟨k.val, by omega⟩).val := by
  have hJ : (fun a : Fin 3 => (⟨0 + ((ix3 b m k : S2x4096x32.Idx) a).val, by
      match a with
      | 0 => exact (Nat.zero_add b.val).trans_lt b.isLt
      | 1 => exact (Nat.zero_add m.val).trans_lt m.isLt
      | 2 => exact (Nat.zero_add k.val).trans_lt (k.isLt.trans (by decide))⟩ : Fin (S2x4096x16384.size a)))
      = (ix3 b m ⟨k.val, by omega⟩ : S2x4096x16384.Idx) := by
    funext a
    match a with
    | 0 | 1 | 2 => exact Fin.ext (Nat.zero_add _)
  have hR : (fun a a' : Fin 16384 => FloatOps.cmpfTotal (F := Ideal) (φ := .f32) .gt (x ((ix3 b m ⟨k.val, by omega⟩ : S2x4096x16384.Idx).along 2 a)) (x ((ix3 b m ⟨k.val, by omega⟩ : S2x4096x16384.Idx).along 2 a')) == 1#1)
      = greater x b m := by
    funext a a'
    rw [along_at, along_at, Ideal.cmpfTotal_def]
    unfold greater
    show (BitVec.ofBool (decide (x (ix3 b m a') < x (ix3 b m a))) == 1#1) = _
    rw [show ∀ p : Bool, (BitVec.ofBool p == 1#1) = p by decide]
  have h : ∀ J : S2x4096x16384.Idx, J = ix3 b m ⟨k.val, by omega⟩ →
      x (J.along 2 (sortedFrom (fun a a' : Fin 16384 => FloatOps.cmpfTotal (F := Ideal) (φ := .f32) .gt (x (J.along 2 a)) (x (J.along 2 a')) == 1#1) (J 2)))
          = x (ix3 b m (sortedFrom (greater x b m) ⟨k.val, by omega⟩))
        ∧ iotaInDim S2x4096x16384 32 2 (J.along 2 (sortedFrom (fun a a' : Fin 16384 => FloatOps.cmpfTotal (F := Ideal) (φ := .f32) .gt (x (J.along 2 a)) (x (J.along 2 a')) == 1#1) (J 2)))
          = BitVec.ofNat 32 (sortedFrom (greater x b m) ⟨k.val, by omega⟩).val := by
    rintro J rfl
    rw [hR]
    have ha := along_at b m ⟨k.val, by omega⟩ (sortedFrom (greater x b m) ⟨k.val, by omega⟩)
    exact ⟨congrArg x ha, (congrArg (iotaInDim S2x4096x16384 32 2) ha).trans (iota_at b m _)⟩
  exact h _ hJ

/-- The point of rank `k` of query `m` of batch `b`. -/
def rank (x : FVec Ideal S2x16384x3 .f32) (y : FVec Ideal S2x4096x3 .f32) (b : Fin 2) (m : Fin 4096) (k : ℕ) : ℕ :=
  if h : k < 16384 then (sortedFrom (greater (Host.negf (dists x y)) b m) ⟨k, h⟩).val else 0

/-- The reference's order of negated distances is the order of distances, equal ones by number. -/
theorem greater_iff (x : FVec Ideal S2x16384x3 .f32) (y : FVec Ideal S2x4096x3 .f32) (b : Fin 2) (m : Fin 4096) (a a' : Fin 16384) :
    greater (Host.negf (dists x y)) b m a a' = true ↔ distAt x y b m a.val < distAt x y b m a'.val := by
  unfold greater
  rw [distAt_val, distAt_val, decide_eq_true_iff, ← dists_at, ← dists_at]
  show -(dists x y (ix3 b m a')) < -(dists x y (ix3 b m a)) ↔ _
  exact EReal.neg_lt_neg_iff

/-- The reference's result at a query and a rank, and the value it is found by. -/
theorem result_at (x : FVec Ideal S2x16384x3 .f32) (y : FVec Ideal S2x4096x3 .f32) (b : Fin 2) (m : Fin 4096) (k : Fin 32) :
    (Host.topK S2x4096x32 2 (FloatOps.cmpfTotal .gt) (Host.negf (dists x y)) sliceFits_S2x4096x16384_S2x4096x32).1 (ix3 b m k) = -(distAt x y b m (rank x y b m k.val))
      ∧ (Host.topK S2x4096x32 2 (FloatOps.cmpfTotal .gt) (Host.negf (dists x y)) sliceFits_S2x4096x16384_S2x4096x32).2 (ix3 b m k) = BitVec.ofNat 32 (rank x y b m k.val) := by
  have hk : k.val < 16384 := by omega
  have h := topK_at (Host.negf (dists x y)) b m k
  have e : rank x y b m k.val = (sortedFrom (greater (Host.negf (dists x y)) b m) ⟨k.val, hk⟩).val := dif_pos hk
  generalize hn : sortedFrom (greater (Host.negf (dists x y)) b m) ⟨k.val, hk⟩ = n at h e
  rw [e, distAt_val, ← dists_at]
  exact h

end Cert.ReferenceIdeal.Val

end
-- ==== Proof.Precond.lean ====
/- What the precondition says of the ranks of a query: each of the first 32 distances is below `+∞`, and at most five of
   the points share a class. -/
module

public import proofs.«01_k».proof.Proof.Distances
public import proofs.«01_k».proof.Pre_uncrowded

@[expose] public section

set_option maxRecDepth 16384

noncomputable section

namespace Cert.Pre_uncrowded.Val

open Cert.Pre_uncrowded Idealize.ShloMosaic Knn

/-- The facts the precondition's function is printed with. -/
instance facts : Cert.Pre_uncrowded.Facts where
  bcast_S_S2x4096x16384 := by decide
  reducesTo_S2x4096x3_S2x4096_d2 := by decide
  h_S_ := by decide
  bcast_S2x4096_S2x4096x1_0_1 := by decide
  bcast_S2x4096x1_S2x4096x16384_0_1_2 := by decide
  reducesTo_S2x16384x3_S2x16384_d2 := by decide
  bcast_S2x16384_S2x1x16384_0_2 := by decide
  bcast_S2x1x16384_S2x4096x16384_0_1_2 := by decide
  sliceFits_S2x4096x16384_S2x4096x32 := by decide
  bcast_S_S2x4096x32 := by decide
  bcast_S2x4096x32_S2x4096x32x1_0_1_2 := by decide
  bcast_S2x4096x32_S2x4096x1x32_0_1_3 := by decide
  bcast_S2x4096x32x1_S2x4096x32x32_0_1_2_3 := by decide
  bcast_S2x4096x1x32_S2x4096x32x32_0_1_2_3 := by decide
  natLt_1_32 := by decide
  reducesTo_S2x4096x32x32_S2x4096x32_d3 := by decide
  dot_S2x4096x3_S2x16384x3_S2x4096x16384_2_2_1_1_0_0_wf := by decide

/-- The precondition's last step, at a query and a rank, from the sorted values and the classes. -/
theorem part1_at (v : FVec Ideal S2x4096x32 .f32) (n : IVec S2x4096x32 32) (b : Fin 2) (m : Fin 4096) (k : Fin 32) :
    fn_part1 (F := Ideal) v (broadcastInDim S2x4096x32x1 ![0, 1, 2] Facts.bcast_S2x4096x32_S2x4096x32x1_0_1_2 n)
      (broadcastInDim S2x4096x1x32 ![0, 1, 3] Facts.bcast_S2x4096x32_S2x4096x1x32_0_1_3 n) (ix3 b m k)
      = IntOp.andi (BitVec.ofBool (decide (Ideal.ofBits .f32 0xFF800000#32 < v (ix3 b m k))))
        (IntOp.cmpi .sle (Finset.univ.fold IntOp.addi 0#32 fun j => BitVec.setWidth 32 (IntOp.cmpi .eq (n (ix3 b m k)) (n (ix3 b m j)))) 5#32) := by
  unfold fn_part1
  pointwise

/-- The word of `-∞`. -/
theorem neg_inf_eq : Ideal.ofBits .f32 0xFF800000#32 = (⊥ : EReal) := rfl

/-- A sum of indicators as words is the count as a word. -/
theorem fold_addi {ι : Type} [DecidableEq ι] (s : Finset ι) (p : ι → Bool) :
    s.fold IntOp.addi 0#32 (fun j => BitVec.setWidth 32 (BitVec.ofBool (p j))) = BitVec.ofNat 32 (s.filter fun j => p j = true).card := by
  induction s using Finset.induction_on with
  | empty => rfl
  | insert a s ha ih =>
    rw [Finset.fold_insert ha, ih, Finset.filter_insert]
    have ha' : a ∉ s.filter fun j => p j = true := fun h => ha (Finset.mem_filter.1 h).1
    by_cases h : p a = true
    · rw [if_pos h, Finset.card_insert_of_notMem ha', h, Nat.add_comm, BitVec.ofNat_add]
      rfl
    · rw [if_neg h, Bool.eq_false_of_not_eq_true h]
      exact BitVec.zero_add _

/-- The class of a point as the precondition takes it. -/
theorem class_eq (n n' : ℕ) (hn : n < 16384) (hn' : n' < 16384) :
    BitVec.ofNat 32 n &&& 127#32 = BitVec.ofNat 32 n' &&& 127#32 ↔ n' % 128 = n % 128 := by
  have h : ∀ {a : ℕ}, a < 16384 → (BitVec.ofNat 32 a &&& 127#32).toNat = a % 128 := fun {a} ha => by
    rw [BitVec.toNat_and, BitVec.toNat_ofNat, Nat.mod_eq_of_lt (by omega)]
    exact Nat.and_two_pow_sub_one_eq_mod a 7
  refine ⟨fun e => ?_, fun e => BitVec.eq_of_toNat_eq ?_⟩
  · have := congrArg BitVec.toNat e
    rw [h hn, h hn'] at this
    exact this.symm
  · rw [h hn, h hn', e]

/-- The ranks are points. -/
theorem rank_lt (x : FVec Ideal S2x16384x3 .f32) (y : FVec Ideal S2x4096x3 .f32) (b : Fin 2) (m : Fin 4096) (k : ℕ) :
    Cert.ReferenceIdeal.Val.rank x y b m k < 16384 := by
  unfold Cert.ReferenceIdeal.Val.rank
  split_ifs
  · exact Fin.isLt _
  · norm_num

/-- The precondition at a query and a rank. -/
theorem fn_at (x : FVec Ideal S2x16384x3 .f32) (y : FVec Ideal S2x4096x3 .f32) (b : Fin 2) (m : Fin 4096) (k : Fin 32) :
    fn (F := Ideal) x y (ix3 b m k) = 1#1 ↔ distAt x y b m (Cert.ReferenceIdeal.Val.rank x y b m k.val) < ⊤
      ∧ (Finset.univ.filter fun j : Fin 32 => Cert.ReferenceIdeal.Val.rank x y b m j.val % 128 = Cert.ReferenceIdeal.Val.rank x y b m k.val % 128).card ≤ 5 := by
  have hr := fun j : Fin 32 => Cert.ReferenceIdeal.Val.result_at x y b m j
  have h : fn (F := Ideal) x y (ix3 b m k) = _ := part1_at (Host.topK S2x4096x32 2 (FloatOps.cmpfTotal .gt) (Host.negf (Cert.ReferenceIdeal.Val.dists x y)) Facts.sliceFits_S2x4096x16384_S2x4096x32).1
    (andi (Host.topK S2x4096x32 2 (FloatOps.cmpfTotal .gt) (Host.negf (Cert.ReferenceIdeal.Val.dists x y)) Facts.sliceFits_S2x4096x16384_S2x4096x32).2
      (broadcastInDim S2x4096x32 ![] Facts.bcast_S_S2x4096x32 (constantI S_ 32 127#32))) b m k
  have hn : ∀ j : Fin 32, andi (Host.topK S2x4096x32 2 (FloatOps.cmpfTotal .gt) (Host.negf (Cert.ReferenceIdeal.Val.dists x y)) Facts.sliceFits_S2x4096x16384_S2x4096x32).2
      (broadcastInDim S2x4096x32 ![] Facts.bcast_S_S2x4096x32 (constantI S_ 32 127#32)) (ix3 b m j) = BitVec.ofNat 32 (Cert.ReferenceIdeal.Val.rank x y b m j.val) &&& 127#32 :=
    fun j => congrArg (· &&& 127#32) (hr j).2
  rw [(hr k).1, neg_inf_eq] at h
  simp only [hn] at h
  have hf := fold_addi (Finset.univ : Finset (Fin 32)) fun j =>
    (BitVec.ofNat 32 (Cert.ReferenceIdeal.Val.rank x y b m k.val) &&& 127#32 == BitVec.ofNat 32 (Cert.ReferenceIdeal.Val.rank x y b m j.val) &&& 127#32)
  have hs : (Finset.univ.filter fun j : Fin 32 => (BitVec.ofNat 32 (Cert.ReferenceIdeal.Val.rank x y b m k.val) &&& 127#32 == BitVec.ofNat 32 (Cert.ReferenceIdeal.Val.rank x y b m j.val) &&& 127#32) = true)
      = Finset.univ.filter fun j : Fin 32 => Cert.ReferenceIdeal.Val.rank x y b m j.val % 128 = Cert.ReferenceIdeal.Val.rank x y b m k.val % 128 :=
    Finset.filter_congr fun j _ => beq_iff_eq.trans (class_eq _ _ (rank_lt x y b m k.val) (rank_lt x y b m j.val))
  rw [hs] at hf
  have hle : (Finset.univ.filter fun j : Fin 32 => Cert.ReferenceIdeal.Val.rank x y b m j.val % 128 = Cert.ReferenceIdeal.Val.rank x y b m k.val % 128).card ≤ 32 :=
    (Finset.card_le_univ _).trans_eq (Fintype.card_fin 32)
  have h' := h.trans (congrArg (fun w => IntOp.andi _ (BitVec.ofBool (BitVec.sle w 5#32))) hf)
  rw [h']
  refine (Cert.KernelIdeal.Val.both _ _).trans (and_congr ?_ ?_)
  · generalize distAt x y b m (Cert.ReferenceIdeal.Val.rank x y b m k.val) = d
    have e : -(⊤ : EReal) < -d ↔ d < ⊤ := EReal.neg_lt_neg_iff
    rw [EReal.neg_top] at e
    exact decide_eq_true_iff.trans e
  · rw [BitVec.sle_iff_toInt_le, BitVec.toInt_eq_toNat_of_lt (by rw [BitVec.toNat_ofNat]; omega), BitVec.toNat_ofNat, Nat.mod_eq_of_lt (by omega)]
    have e5 : (5#32 : BitVec 32).toInt = 5 := by decide
    rw [e5]
    exact Int.ofNat_le

/-- The count of the ranks of a class, over the ranks as a finite type. -/
theorem card_met (σ : ℕ → ℕ) (l : ℕ) : (Finset.univ.filter fun j : Fin 32 => σ j.val % 128 = l).card = met σ 32 l := by
  unfold met
  refine Finset.card_bij (fun j _ => j.val) (fun j hj => ?_) (fun j _ j' _ e => Fin.ext e) (fun j hj => ?_)
  · exact Finset.mem_filter.2 ⟨Finset.mem_range.2 j.isLt, (Finset.mem_filter.1 hj).2⟩
  · have hj := Finset.mem_filter.1 hj
    exact ⟨⟨j, Finset.mem_range.1 hj.1⟩, Finset.mem_filter.2 ⟨Finset.mem_univ _, hj.2⟩, rfl⟩

/-- The ranks are the reference's order as far as the distances are below `+∞`. -/
theorem ranks_of_fin (x : FVec Ideal S2x16384x3 .f32) (y : FVec Ideal S2x4096x3 .f32) (b : Fin 2) (m : Fin 4096)
    (h : ∀ k < 32, distAt x y b m (Cert.ReferenceIdeal.Val.rank x y b m k) < ⊤) : Ranks (distAt x y b m) 32 (Cert.ReferenceIdeal.Val.rank x y b m) := by
  refine ranks_of_sort _ _ (Cert.ReferenceIdeal.Val.greater_iff x y b m) 32 (by norm_num) _ (fun k hk => ?_) h
  unfold Cert.ReferenceIdeal.Val.rank
  rw [dif_pos (hk.trans (by norm_num))]

/-- UNDER THE PRECONDITION the first 32 ranks of every query are below `+∞`, and at most five share a class. -/
theorem ranks (x : FVec Ideal S2x16384x3 .f32) (y : FVec Ideal S2x4096x3 .f32) (h : fn (F := Ideal) x y = fun _ => 1#1) (b : Fin 2) (m : Fin 4096) :
    Ranks (distAt x y b m) 32 (Cert.ReferenceIdeal.Val.rank x y b m)
      ∧ ∀ k < 32, met (Cert.ReferenceIdeal.Val.rank x y b m) 32 (Cert.ReferenceIdeal.Val.rank x y b m k % 128) ≤ 5 := by
  have hf := fun (k : ℕ) (hk : k < 32) => (fn_at x y b m ⟨k, hk⟩).1 (congrFun h _)
  exact ⟨ranks_of_fin x y b m fun k hk => (hf k hk).1, fun k hk => (card_met _ _).symm.trans_le (hf k hk).2⟩

/-- THE CONVERSE: ranks below `+∞` of which at most five share a class give the precondition. -/
theorem of_ranks (x : FVec Ideal S2x16384x3 .f32) (y : FVec Ideal S2x4096x3 .f32)
    (h : ∀ (b : Fin 2) (m : Fin 4096), (∀ k < 32, distAt x y b m (Cert.ReferenceIdeal.Val.rank x y b m k) < ⊤)
      ∧ ∀ l, met (Cert.ReferenceIdeal.Val.rank x y b m) 32 l ≤ 5) : fn (F := Ideal) x y = fun _ => 1#1 := by
  funext i
  have hi : i = ix3 (i 0) (i 1) (i 2) := by
    funext a
    match a with
    | 0 => rfl
    | 1 => rfl
    | 2 => rfl
  refine (congrArg (fn (F := Ideal) x y) hi).trans ((fn_at x y (i 0) (i 1) (i 2)).2 ⟨(h (i 0) (i 1)).1 (i 2).val (i 2).isLt, ?_⟩)
  exact (card_met _ _).trans_le ((h (i 0) (i 1)).2 _)

end Cert.Pre_uncrowded.Val

end
-- ==== Proof.Output.lean ====
/- The kernel's result array. Every grid point writes the answers of the 32 rounds for 128 queries of one batch; the
   points together fill the array, and the transpose after the region is the result. It is the reference's exactly where
   the precondition holds. -/
module

public import proofs.«01_k».proof.Proof.Precond
public import Idealize.ShloMosaic.Lib.Pipeline.ValueKit

@[expose] public section

set_option maxRecDepth 16384

noncomputable section

namespace Cert.KernelIdeal.Val

open Cert.KernelIdeal Cert.KernelIdeal.Gen Idealize.ShloMosaic Idealize.ShloMosaic.TcCoe Idealize.SL.Sem Knn
open Idealize.ShloMosaic.Pipeline (Dat)

variable (m : (ℓ : Loc nD τ sig) → Buf (Elt Ideal) ℓ) (ρ : Dev nD → PrngReg)

/-- The points of core `c`'s memory. -/
abbrev pts (c : Dev nD) : FVec Ideal S2x16384x3 .f32 := m ((c : Thread nD τ).loc main_arg0)

/-- Its queries. -/
abbrev qry (c : Dev nD) : FVec Ideal S2x4096x3 .f32 := m ((c : Thread nD τ).loc main_arg1)

/-- The batch of a grid point. -/
abbrev bat (t : Fin cfg0.N) : Fin 2 := grid0.coords t 0

/-- A query of a grid point's block. -/
def query (t : Fin cfg0.N) (q : Fin 128) : Fin 4096 :=
  ⟨(grid0.coords t 1).val * 128 + q.val, by have h : (grid0.coords t 1).val < 32 := (grid0.coords t 1).isLt; omega⟩

/-- Which block of the points a grid point reads. -/
theorem tr0 : ∀ i : grid0.Coords, cc0_transform_0 i 0 = (i 0).val ∧ cc0_transform_0 i 1 = 0 ∧ cc0_transform_0 i 2 = 0 := by decide +kernel
/-- Which block of the transposed queries a grid point reads. -/
theorem tr1 : ∀ i : grid0.Coords, cc0_transform_1 i 0 = (i 0).val ∧ cc0_transform_1 i 1 = 0 ∧ cc0_transform_1 i 2 = (i 1).val := by decide +kernel
/-- Which block of the result a grid point writes. -/
theorem tr2 : ∀ i : grid0.Coords, cc0_transform_2 i 0 = (i 0).val ∧ cc0_transform_2 i 1 = 0 ∧ cc0_transform_2 i 2 = (i 1).val := by decide +kernel

/-- The block of points a grid point reads. -/
theorem iblk0_at (c : Dev nD) (t : Fin cfg0.N) (n : Fin 16384) (k : Fin 3) : iblk m c 0 t (ix3 0 n k) = pts m c (ix3 (bat t) n k) := by
  have h := tr0 (grid0.coords t)
  refine Eq.trans ?_ (congrFun (V_main_arg0 m c) (ix3 (bat t) n k))
  refine congrArg (V m c main_arg0) (funext fun a => Fin.ext ?_)
  match a with
  | 0 => show cc0_transform_0 (grid0.coords t) 0 * 1 + 1 * 0 = (grid0.coords t 0).val; rw [h.1]; omega
  | 1 => show cc0_transform_0 (grid0.coords t) 1 * 16384 + 1 * n.val = n.val; rw [h.2.1]; omega
  | 2 => show cc0_transform_0 (grid0.coords t) 2 * 3 + 1 * k.val = k.val; rw [h.2.2]; omega

/-- The transposed queries the region finds. -/
theorem V_v0 (c : Dev nD) : V m c main_v0 = transpose S2x3x4096 [0, 2, 1] (qry m c) transposes_S2x4096x3_S2x3x4096_0_2_1 := by
  show StableHlo.after hostOps0 (fun b => m (c, b)) (Proc.devRef .tc main_v0) = _
  after_results

/-- The block of queries a grid point reads. -/
theorem iblk1_at (c : Dev nD) (t : Fin cfg0.N) (k : Fin 3) (q : Fin 128) : iblk m c 1 t (ix3 0 k q) = qry m c (ix3 (bat t) (query t q) k) := by
  have h := tr1 (grid0.coords t)
  have hx : iblk m c 1 t (ix3 0 k q) = V m c main_v0 (ix3 (bat t) k (query t q)) := by
    refine congrArg (V m c main_v0) (funext fun a => Fin.ext ?_)
    match a with
    | 0 => show cc0_transform_1 (grid0.coords t) 0 * 1 + 1 * 0 = (grid0.coords t 0).val; rw [h.1]; omega
    | 1 => show cc0_transform_1 (grid0.coords t) 1 * 3 + 1 * k.val = k.val; rw [h.2.1]; omega
    | 2 => show cc0_transform_1 (grid0.coords t) 2 * 128 + 1 * q.val = (grid0.coords t 1).val * 128 + q.val; rw [h.2.2]; omega
  rw [hx, V_v0]
  pointwise

/-- The distances of a block, for blocks that hold batch `b`'s points and the queries `f`. -/
theorem dist_block (x : FVec Ideal S2x16384x3 .f32) (y : FVec Ideal S2x4096x3 .f32) (x0 : FVec Ideal S1x16384x3 .f32)
    (x1 : FVec Ideal S1x3x128 .f32) (b : Fin 2) (f : Fin 128 → Fin 4096) (h0 : ∀ n k, x0 (ix3 0 n k) = x (ix3 b n k))
    (h1 : ∀ k q, x1 (ix3 0 k q) = y (ix3 b (f q) k)) (q : Fin 128) (n : ℕ) :
    distOf (k0_pay2 x0 x1) q n = distAt x y b (f q) n := by
  unfold distOf distAt
  split_ifs with h
  · refine (pay2_at _ _ _ _ _).trans ?_
    have e : (⟨n / 128 * 128 + n % 128, by omega⟩ : Fin 16384) = ⟨n, h⟩ := Fin.ext (by show n / 128 * 128 + n % 128 = n; omega)
    have hs : (∑ k : Fin 3, x (ix3 b ⟨n, h⟩ k) * y (ix3 b (f q) k)) = ∑ k : Fin 3, y (ix3 b (f q) k) * x (ix3 b ⟨n, h⟩ k) :=
      Finset.sum_congr rfl fun k _ => mul_comm _ _
    unfold Knn.dist
    simp only [e, h0, h1, hs]
  · rfl

/-- A grid point's block of distances. -/
theorem dist_at (c : Dev nD) (t : Fin cfg0.N) (q : Fin 128) (n : ℕ) :
    distOf (k0_pay2 (iblk m c 0 t) (iblk m c 1 t)) q n = distAt (pts m c) (qry m c) (bat t) (query t q) n :=
  dist_block (pts m c) (qry m c) (iblk m c 0 t) (iblk m c 1 t) (bat t) (query t) (iblk0_at m c t) (iblk1_at m c t) q n

/-- What one run of the body leaves in its block: the answers of its rounds. -/
theorem out_at (c : Dev nD) (i : grid0.Coords) (arg2 harg2 arg3 harg3 arg4 harg4 arg5 harg5) (x0 : FVec Ideal S1x16384x3 .f32)
    (x1 : FVec Ideal S1x3x128 .f32) (k : Fin 32) (q : Fin 128) :
    out0_A_2 (F := Ideal) c i arg2 harg2 arg3 harg3 arg4 harg4 arg5 harg5 x0 x1 (ix3 0 k q)
      = (looped (F := Ideal) c i arg2 harg2 arg3 harg3 arg4 harg4 arg5 harg5 x0 x1).answers 32 (ix2 k q) := by
  unfold out0_A_2
  rw [pieces_eq]
  generalize (looped (F := Ideal) c i arg2 harg2 arg3 harg3 arg4 harg4 arg5 harg5 x0 x1).answers 32 = a
  refine (congrFun (View.read_writes_full _ _ _ _ _) _).trans ?_
  pointwise

/-- The table the rounds of a grid point start from. -/
def table (c : Dev nD) (t : Fin cfg0.N) : Tab Ideal :=
  looped (F := Ideal) c (grid0.coords t) (ms0_0 t) (hs0_0 t) (ms0_1 t) (hs0_1 t) (ms0_2 t) (hs0_2 t) scM0_0 (Memref.isWhole_whole _)
    (iblk m c 0 t) (iblk m c 1 t)

/-- A grid point's block holds the answers from its table. -/
theorem block_at (c : Dev nD) (t : Fin cfg0.N) (k : Fin 32) (q : Fin 128) : outsAt0 m c t (ix3 0 k q) = (table m c t).answers 32 (ix2 k q) := by
  unfold outsAt0 table
  exact out_at c (grid0.coords t) (ms0_0 t) (hs0_0 t) (ms0_1 t) (hs0_1 t) (ms0_2 t) (hs0_2 t) scM0_0 (Memref.isWhole_whole _)
    (iblk m c 0 t) (iblk m c 1 t) k q

/-- Its table holds, per class and query, the five nearest points. -/
theorem table_sorted (c : Dev nD) (t : Fin cfg0.N) (l q : Fin 128) :
    Sorted (distAt (pts m c) (qry m c) (bat t) (query t q)) l.val 128 ((table m c t).cell l q) :=
  (looped_sorted c (grid0.coords t) (ms0_0 t) (hs0_0 t) (ms0_1 t) (hs0_1 t) (ms0_2 t) (hs0_2 t) scM0_0 (Memref.isWhole_whole _)
    (iblk m c 0 t) (iblk m c 1 t) l q).congr l.isLt fun n _ => dist_at m c t q n

/-- An index of the block is `(0, k, q)`. -/
theorem block_idx (y : S1x32x128.Idx) : y = ix3 0 (y 1) (y 2) := by
  funext a
  match a with
  | 0 => exact Fin.ext (by have h : (y 0).val < 1 := (y 0).isLt; show (y 0).val = 0; omega)
  | 1 => rfl
  | 2 => rfl

/-- The coordinates of a grid point. -/
theorem coords_at : ∀ t : Fin grid0.N, (grid0.coords t 0).val = t.val / 32 ∧ (grid0.coords t 1).val = t.val % 32 := by decide +kernel

/-- The grid point that answers a query of a batch. -/
def pointOf (b : Fin 2) (n : Fin 4096) : Fin cfg0.N := ⟨b.val * 32 + n.val / 128, by have e : cfg0.N = 64 := N_0; omega⟩

/-- The query's place in that grid point's block. -/
def place (n : Fin 4096) : Fin 128 := ⟨n.val % 128, Nat.mod_lt _ (by norm_num)⟩

/-- That grid point's batch is the query's. -/
theorem bat_pointOf (b : Fin 2) (n : Fin 4096) : bat (pointOf b n) = b := by
  refine Fin.ext ((coords_at _).1.trans ?_)
  show (b.val * 32 + n.val / 128) / 32 = b.val
  omega

/-- That place holds the query. -/
theorem query_pointOf (b : Fin 2) (n : Fin 4096) : query (pointOf b n) (place n) = n := by
  refine Fin.ext ?_
  show (grid0.coords (pointOf b n) 1).val * 128 + n.val % 128 = n.val
  rw [(coords_at _).2]
  show (b.val * 32 + n.val / 128) % 32 * 128 + n.val % 128 = n.val
  omega

/-- A grid point's own queries are answered by it. -/
theorem pointOf_query (t : Fin cfg0.N) (q : Fin 128) : pointOf (bat t) (query t q) = t := by
  have ht : t.val < 64 := lt_of_lt_of_eq t.isLt N_0
  refine Fin.ext ?_
  show (grid0.coords t 0).val * 32 + ((grid0.coords t 1).val * 128 + q.val) / 128 = t.val
  rw [(coords_at t).1, (coords_at t).2]
  omega

/-- The place of a grid point's query. -/
theorem place_query (t : Fin cfg0.N) (q : Fin 128) : place (query t q) = q := by
  refine Fin.ext ?_
  show ((grid0.coords t 1).val * 128 + q.val) % 128 = q.val
  omega

/-- The array the region leaves: per batch, rank and query the answer of the query's grid point. -/
def found (c : Dev nD) : S2x32x4096.Idx → BitVec 32 := fun i =>
  (table m c (pointOf (i 0) (i 2))).answers 32 (ix2 (i 1) (place (i 2)))

/-- The array at a grid point's block is what the grid point leaves. -/
theorem found_at (c : Dev nD) (t : Fin cfg0.N) (k : Fin 32) (q : Fin 128) : found m c (ix3 (bat t) k (query t q)) = outsAt0 m c t (ix3 0 k q) := by
  rw [block_at]
  show (table m c (pointOf (bat t) (query t q))).answers 32 (ix2 k (place (query t q))) = _
  rw [pointOf_query, place_query]

/-- After the last grid point the region's array holds the answers. -/
theorem final (c : Dev nD) : (dats m 0 c).arrAt 2 cfg0.N = found m c := by
  refine (dats m 0 c).arrAt_eq_of_covers 2 (found m c) (by decide +kernel) (fun t _ y => ?_)
  have h2 := tr2 (grid0.coords t)
  show (dats m 0 c).after 2 t y = found m c (((cfg0.win 2).blk t).view.emb y)
  rw [after0_2]
  refine (congrArg (outsAt0 m c t) (block_idx y)).trans ((found_at m c t (y 1) (y 2)).symm.trans (congrArg (found m c) (funext fun a => Fin.ext ?_)))
  match a with
  | 0 =>
    have hy : (y 0).val < 1 := (y 0).isLt
    show (grid0.coords t 0).val = cc0_transform_2 (grid0.coords t) 0 * 1 + 1 * (y 0).val; rw [h2.1]; omega
  | 1 => show (y 1).val = cc0_transform_2 (grid0.coords t) 1 * 32 + 1 * (y 1).val; rw [h2.2.1]; omega
  | 2 => show (grid0.coords t 1).val * 128 + (y 2).val = cc0_transform_2 (grid0.coords t) 2 * 128 + 1 * (y 2).val; rw [h2.2.2]; omega

/-- The result: per batch, query and rank the answer. -/
def result (c : Dev nD) : S2x4096x32.Idx → BitVec 32 :=
  transpose S2x4096x32 [0, 2, 1] (found m c) transposes_S2x32x4096_S2x4096x32_0_2_1

/-- What the line after the region leaves in the result's buffer. -/
theorem tail (c : Dev nD) :
    Pipeline.afterTail₀ cfgs (dats m) 0 (V0 m) [hostOps1] c main_v2 = result m c := by
  have hw : Pipeline.withArrays (cfgs 0).spec c (V0 m c) (fun w => (dats m 0 c).arrAt w (cfgs 0).N) (Proc.devRef .tc main_v1) = found m c :=
    (Pipeline.withArrays_arr spec0 winFacts0.arr_inj c (V0 m c) (fun w => (dats m 0 c).arrAt w (cfgs 0).N) 2).trans (final m c)
  unfold Pipeline.afterTail₀
  show StableHlo.after hostOps1 _ (Proc.devRef .tc main_v2) = _
  after_results
  rw [hw]
  rfl

/-- The result at a query and a rank: a round's answer from the table of the query's grid point. -/
theorem result_eq_round (c : Dev nD) (b : Fin 2) (n : Fin 4096) (k : Fin 32) :
    result m c (ix3 b n k) = leastNum (rounds ((table m c (pointOf b n)).col (place n)) k.val) := by
  have hx : result m c (ix3 b n k) = found m c (ix3 b k n) := by
    unfold result
    generalize found m c = g
    pointwise
  exact hx.trans (answers_at _ _ k 32 le_rfl k.isLt)

/-- The table of a query's grid point holds, per class, the query's five nearest points. -/
theorem query_sorted (c : Dev nD) (b : Fin 2) (n : Fin 4096) (l : Fin 128) :
    Sorted (distAt (pts m c) (qry m c) b n) l.val 128 ((table m c (pointOf b n)).col (place n) l) := by
  have h := table_sorted m c (pointOf b n) l (place n)
  rw [bat_pointOf, query_pointOf] at h
  exact h

/-- The reference's result. -/
abbrev wanted (c : Dev nD) : Cert.ReferenceIdeal.S2x4096x32.Idx → BitVec 32 := (Host.topK Cert.ReferenceIdeal.S2x4096x32 2 (FloatOps.cmpfTotal .gt)
  (Host.negf (Cert.ReferenceIdeal.Val.dists (pts m c) (qry m c))) Cert.ReferenceIdeal.Gen.sliceFits_S2x4096x16384_S2x4096x32).2

/-- UNDER THE PRECONDITION the kernel's result is the reference's. -/
theorem result_eq (c : Dev nD) (hpre : Cert.Pre_uncrowded.fn (F := Ideal) (pts m c) (qry m c) = fun _ => 1#1) : wanted m c = result m c := by
  funext i
  have hi : i = ix3 (i 0) (i 1) (i 2) := by
    funext a
    match a with
    | 0 => rfl
    | 1 => rfl
    | 2 => rfl
  rw [hi]
  have hr := Cert.Pre_uncrowded.Val.ranks (pts m c) (qry m c) hpre (i 0) (i 1)
  refine (Cert.ReferenceIdeal.Val.result_at (pts m c) (qry m c) (i 0) (i 1) (i 2)).2.trans ?_
  refine (answers_of_sorted (table m c (pointOf (i 0) (i 1))) (place (i 1)) _ (query_sorted m c (i 0) (i 1)) _ hr.1 hr.2 (i 2)).symm.trans ?_
  exact (answers_at _ _ (i 2) 32 le_rfl (i 2).isLt).trans (result_eq_round m c (i 0) (i 1) (i 2)).symm

/-- THE PRECONDITION IS NEEDED: where the kernel's result is the reference's, it holds. -/
theorem pre_of_result_eq (c : Dev nD) (h : wanted m c = result m c) : Cert.Pre_uncrowded.fn (F := Ideal) (pts m c) (qry m c) = fun _ => 1#1 := by
  refine Cert.Pre_uncrowded.Val.of_ranks (pts m c) (qry m c) fun b n => ?_
  have hk : ∀ k < 32, distAt (pts m c) (qry m c) b n (Cert.ReferenceIdeal.Val.rank (pts m c) (qry m c) b n k) < ⊤
      ∧ below (distAt (pts m c) (qry m c) b n) (Cert.ReferenceIdeal.Val.rank (pts m c) (qry m c) b n k % 128) 128
        (key (pt (distAt (pts m c) (qry m c) b n) (Cert.ReferenceIdeal.Val.rank (pts m c) (qry m c) b n k))) < 5 := fun k hk =>
    of_answered ((table m c (pointOf b n)).col (place n)) (query_sorted m c b n) (fun l => padded_cell _ l _)
      (Cert.Pre_uncrowded.Val.rank_lt (pts m c) (qry m c) b n k)
      ((result_eq_round m c b n ⟨k, hk⟩).symm.trans ((congrFun h (ix3 b n ⟨k, hk⟩)).symm.trans
        (Cert.ReferenceIdeal.Val.result_at (pts m c) (qry m c) b n ⟨k, hk⟩).2))
  have hr := Cert.Pre_uncrowded.Val.ranks_of_fin (pts m c) (qry m c) b n fun k h => (hk k h).1
  refine ⟨fun k h => (hk k h).1, met_le 32 fun k h => ?_⟩
  exact (hr.below_eq k h _ (Nat.mod_lt _ (by norm_num))).symm.trans_lt (hk k h).2

/-- The two results agree exactly where the precondition holds. -/
theorem result_eq_iff (c : Dev nD) : wanted m c = result m c ↔ Cert.Pre_uncrowded.fn (F := Ideal) (pts m c) (qry m c) = fun _ => 1#1 :=
  ⟨pre_of_result_eq m c, result_eq m c⟩

/-- The kernel's run: its result and its arguments. -/
theorem run_result :
    θ_run defs (onTc (τ := τ) (main (F := Ideal))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v2 (Pipeline.mem_restRefs_of main_v2 (by decide) (by decide))).trans (tail m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩) (run_main m ρ)

end Cert.KernelIdeal.Val

end
-- ==== Proof.Algebraic.lean ====
/- The kernel and the reference, over the extended reals, end with the same result. -/
module

public import proofs.«01_k».proof.Defs
public import proofs.«01_k».proof.Proof.Output

@[expose] public section

set_option maxRecDepth 16384

noncomputable section

namespace Cert.Proof

open Idealize.ShloMosaic Idealize.SL.Sem

/-- On arguments that are equal and where no class of points is crowded, both programs leave the same numbers in their
    results, for every batch, query and rank, and leave the arguments as they were. -/
theorem algebraic : Cert.algebraic_KernelIdeal_ReferenceIdeal_pre_uncrowded := by
  intro m g m' g' hpre hagree
  refine ⟨fun c => Cert.KernelIdeal.Val.result m c, Cert.KernelIdeal.Val.run_result m g, ?_⟩
  refine (θ_run Cert.ReferenceIdeal.defs _ _).mono (fun r h c => ⟨(h c).1.trans ?_, (h c).2.1, (h c).2.2⟩)
    (Cert.ReferenceIdeal.Value.run (F := Ideal) m' g')
  rw [(hagree c).1, (hagree c).2]
  exact Cert.KernelIdeal.Val.result_eq m c (hpre c)

end Cert.Proof

end
-- ==== Proof.lean ====
/- The certificate: everything that Defs.lean claims of the kernel and its reference. -/
module

public import proofs.«01_k».proof.Defs
public import proofs.«01_k».proof.Proof.Frames
public import proofs.«01_k».proof.Proof.Algebraic

@[expose] public section

noncomputable section

namespace Cert.Proof

/-- All the claims together: the frames with and without the precondition, the kernel's text unchanged between the two
    instances, and the equality of the results. -/
theorem claim : Cert.Claim := ⟨Cert.Kernel.Gen.facts, Cert.KernelIdeal.Gen.facts, Cert.ReferenceIdeal.Gen.facts,
  Cert.Pre_uncrowded.Val.facts, frame_kernel, frame_ideal, fun m ρ _ => frame_ideal m ρ trivial, frame_reference,
  fun m ρ _ => frame_reference m ρ trivial, trivial, algebraic⟩

end Cert.Proof

end
